-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocabulary [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_vocabulary [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocabulary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_softcap" .f32 0x3D088889#32 ((1 / 30 : ℝ) : EReal)
  ∧ IdealRules.named_const.Statement Cert.KernelIdeal.κ "softcap_log2e" .f32 0x422D1F97#32 ((30 * (Real.log 2)⁻¹ : ℝ) : EReal)

def algebraic_KernelIdeal_ReferenceIdeal_pre_in_vocabulary [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel)
    ∧ quiescent_KernelIdeal (hKernelIdeal := hKernelIdeal)
    ∧ quiescent_KernelIdeal_pre_in_vocabulary (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal_pre_in_vocabulary (hKernelIdeal := hKernelIdeal) (hReferenceIdeal := hReferenceIdeal) (hPre_in_vocabulary := hPre_in_vocabulary)
-- ==== Pre_in_vocabulary.lean ====
abbrev S1x128x2304 : Shape := ⟨3, ![1, 128, 2304]⟩
abbrev S16384x2304 : Shape := ⟨2, ![16384, 2304]⟩
abbrev S16384 : Shape := ⟨1, ![16384]⟩
abbrev S114688x1152 : Shape := ⟨2, ![114688, 1152]⟩
abbrev S114688x18 : Shape := ⟨2, ![114688, 18]⟩
abbrev S1x128 : Shape := ⟨2, ![1, 128]⟩
abbrev S_ : Shape := ⟨0, ![]⟩

class Facts : Prop where
  bcast_S_S1x128 : S_.BroadcastsInDim S1x128 (![] : Fin 0 → Fin S1x128.rank)

variable [Facts]

def fn {F : FTy → Type} [FloatOps F] (main_arg0 : FVec F S1x128x2304 .bf16) (main_arg1 : FVec F S16384x2304 .fp8e4m3) (main_arg2 : FVec F S16384 .f32) (main_arg3 : IVec S114688x1152 8) (main_arg4 : FVec F S114688x18 .bf16) (main_arg5 : IVec S1x128 32) : IVec S1x128 1 :=
  let main_c : IVec S_ 32 := constantI S_ 32 131072#32
  let main_v0 : IVec S1x128 32 := broadcastInDim S1x128 ![] bcast_S_S1x128 main_c
  let main_v1 : IVec S1x128 1 := cmpi .slt main_arg5 main_v0
  main_v1
-- ==== Kernel.lean ====
abbrev S1x128x2304 : Shape := ⟨3, ![1, 128, 2304]⟩
abbrev S16384x2304 : Shape := ⟨2, ![16384, 2304]⟩
abbrev S16384 : Shape := ⟨1, ![16384]⟩
abbrev S114688x1152 : Shape := ⟨2, ![114688, 1152]⟩
abbrev S114688x18 : Shape := ⟨2, ![114688, 18]⟩
abbrev S1x128 : Shape := ⟨2, ![1, 128]⟩
abbrev S128x2304 : Shape := ⟨2, ![128, 2304]⟩
abbrev S1x16384 : Shape := ⟨2, ![1, 16384]⟩
abbrev S18x114688 : Shape := ⟨2, ![18, 114688]⟩
abbrev S256x2304 : Shape := ⟨2, ![256, 2304]⟩
abbrev S1x256 : Shape := ⟨2, ![1, 256]⟩
abbrev S1792x1152 : Shape := ⟨2, ![1792, 1152]⟩
abbrev S18x1792 : Shape := ⟨2, ![18, 1792]⟩
abbrev S128x128 : Shape := ⟨2, ![128, 128]⟩
abbrev S128x256 : Shape := ⟨2, ![128, 256]⟩
abbrev S256x128 : Shape := ⟨2, ![256, 128]⟩
abbrev S128x1x256 : Shape := ⟨3, ![128, 1, 256]⟩
abbrev S128x2x256 : Shape := ⟨3, ![128, 2, 256]⟩
abbrev S256x256 : Shape := ⟨2, ![256, 256]⟩
abbrev S128 : Shape := ⟨1, ![128]⟩

abbrev nBuf : Space → Nat
  | .hbm => 13
  | .vmem => 18
  | .smem => 0
  | _ => 0

abbrev bufTy : (tb : Table) → Fin (tcTables nBuf tb) → BufTy
  | .hbm, ⟨0, _⟩ => ⟨S1x128x2304, .bf16⟩
  | .hbm, ⟨1, _⟩ => ⟨S16384x2304, .fp8e4m3⟩
  | .hbm, ⟨2, _⟩ => ⟨S16384, .f32⟩
  | .hbm, ⟨3, _⟩ => ⟨S114688x1152, .i8⟩
  | .hbm, ⟨4, _⟩ => ⟨S114688x18, .bf16⟩
  | .hbm, ⟨5, _⟩ => ⟨S1x128, .i32⟩
  | .hbm, ⟨6, _⟩ => ⟨S128x2304, .bf16⟩
  | .hbm, ⟨7, _⟩ => ⟨S1x16384, .f32⟩
  | .hbm, ⟨8, _⟩ => ⟨S18x114688, .bf16⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .local _ .vmem, ⟨0, _⟩ => ⟨S128x2304, .bf16⟩
  | .local _ .vmem, ⟨1, _⟩ => ⟨S256x2304, .fp8e4m3⟩
  | .local _ .vmem, ⟨2, _⟩ => ⟨S256x2304, .fp8e4m3⟩
  | .local _ .vmem, ⟨3, _⟩ => ⟨S1x256, .f32⟩
  | .local _ .vmem, ⟨4, _⟩ => ⟨S1x256, .f32⟩
  | .local _ .vmem, ⟨5, _⟩ => ⟨S1792x1152, .i8⟩
  | .local _ .vmem, ⟨6, _⟩ => ⟨S1792x1152, .i8⟩
  | .local _ .vmem, ⟨7, _⟩ => ⟨S18x1792, .bf16⟩
  | .local _ .vmem, ⟨8, _⟩ => ⟨S18x1792, .bf16⟩
  | .local _ .vmem, ⟨9, _⟩ => ⟨S1x128, .i32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .i32⟩
  | .local _ .vmem, ⟨15, _⟩ => ⟨S128x128, .f32⟩
  | .local _ .vmem, ⟨16, _⟩ => ⟨S128x128, .f32⟩
  | .local _ .vmem, ⟨17, _⟩ => ⟨S128x128, .f32⟩
  | _, _ => ⟨S1x128x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v2620 : BitVec 1 := Scalar.cmpi .eq arg0 c63_i32
  let v2621 : BitVec 32 := Scalar.extui v2620
  let c0_i32_913 : BitVec 32 := 0#32
  let v2622 : BitVec 1 := Scalar.cmpi .ne v2621 c0_i32_913
  v2622

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2304 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1792x1152 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S18x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "inv_softcap" => some ((1 / 30 : ℝ) : EReal)
  | "softcap_log2e" => some ((30 * (Real.log 2)⁻¹ : ℝ) : EReal)
  | _ => none
-- ==== ReferenceIdeal.lean ====
abbrev S1x128x2304 : Shape := ⟨3, ![1, 128, 2304]⟩
abbrev S16384x2304 : Shape := ⟨2, ![16384, 2304]⟩
abbrev S16384 : Shape := ⟨1, ![16384]⟩
abbrev S114688x1152 : Shape := ⟨2, ![114688, 1152]⟩
abbrev S114688x18 : Shape := ⟨2, ![114688, 18]⟩
abbrev S1x128 : Shape := ⟨2, ![1, 128]⟩
abbrev S1x128x16384 : Shape := ⟨3, ![1, 128, 16384]⟩
abbrev S1x1x16384 : Shape := ⟨3, ![1, 1, 16384]⟩
abbrev S_ : Shape := ⟨0, ![]⟩
abbrev S114688x18x64 : Shape := ⟨3, ![114688, 18, 64]⟩
abbrev S114688x18x1 : Shape := ⟨3, ![114688, 18, 1]⟩
abbrev S1x128x1152 : Shape := ⟨3, ![1, 128, 1152]⟩
abbrev S1x128x114688 : Shape := ⟨3, ![1, 128, 114688]⟩
abbrev S1x128x1 : Shape := ⟨3, ![1, 128, 1]⟩
abbrev S128x1x1 : Shape := ⟨3, ![128, 1, 1]⟩
abbrev S1 : Shape := ⟨1, ![1]⟩
abbrev S1x1x1 : Shape := ⟨3, ![1, 1, 1]⟩
abbrev S128x1 : Shape := ⟨2, ![128, 1]⟩

abbrev nBuf : Space → Nat
  | .hbm => 190
  | .vmem => 2
  | .smem => 0
  | _ => 0

abbrev hbmTy0_0 (i : Nat) : BufTy := match i % 128 with
  | 0 => ⟨S1x128x2304, .bf16⟩
  | 1 => ⟨S16384x2304, .fp8e4m3⟩
  | 2 => ⟨S16384, .f32⟩
  | 3 => ⟨S114688x1152, .i8⟩
  | 4 => ⟨S114688x18, .bf16⟩
  | 5 => ⟨S1x128, .i32⟩
  | 6 => ⟨S16384x2304, .bf16⟩
  | 7 => ⟨S1x128x16384, .f32⟩
  | 8 => ⟨S1x1x16384, .f32⟩
  | 9 => ⟨S1x128x16384, .f32⟩
  | 10 => ⟨S1x128x16384, .f32⟩
  | 11 => ⟨S_, .f32⟩
  | 12 => ⟨S1x128x16384, .f32⟩
  | 13 => ⟨S1x128x16384, .f32⟩
  | 14 => ⟨S1x128x16384, .f32⟩
  | 15 => ⟨S_, .f32⟩
  | 16 => ⟨S1x128x16384, .f32⟩
  | 17 => ⟨S1x128x16384, .f32⟩
  | 18 => ⟨S114688x1152, .i32⟩
  | 19 => ⟨S_, .i32⟩
  | 20 => ⟨S114688x1152, .i32⟩
  | 21 => ⟨S114688x1152, .i32⟩
  | 22 => ⟨S_, .i32⟩
  | 23 => ⟨S114688x1152, .i32⟩
  | 24 => ⟨S114688x1152, .i1⟩
  | 25 => ⟨S_, .i32⟩
  | 26 => ⟨S114688x1152, .i32⟩
  | 27 => ⟨S114688x1152, .i32⟩
  | 28 => ⟨S114688x1152, .i32⟩
  | 29 => ⟨S114688x1152, .bf16⟩
  | 30 => ⟨S114688x18x64, .bf16⟩
  | 31 => ⟨S114688x18x1, .bf16⟩
  | 32 => ⟨S114688x18x64, .bf16⟩
  | 33 => ⟨S114688x18x64, .bf16⟩
  | 34 => ⟨S114688x1152, .bf16⟩
  | 35 => ⟨S_, .i32⟩
  | 36 => ⟨S114688x1152, .i32⟩
  | 37 => ⟨S114688x1152, .i32⟩
  | 38 => ⟨S_, .i32⟩
  | 39 => ⟨S114688x1152, .i32⟩
  | 40 => ⟨S114688x1152, .i1⟩
  | 41 => ⟨S_, .i32⟩
  | 42 => ⟨S114688x1152, .i32⟩
  | 43 => ⟨S114688x1152, .i32⟩
  | 44 => ⟨S114688x1152, .i32⟩
  | 45 => ⟨S114688x1152, .bf16⟩
  | 46 => ⟨S114688x18x64, .bf16⟩
  | 47 => ⟨S114688x18x1, .bf16⟩
  | 48 => ⟨S114688x18x64, .bf16⟩
  | 49 => ⟨S114688x18x64, .bf16⟩
  | 50 => ⟨S114688x1152, .bf16⟩
  | 51 => ⟨S1x128x1152, .bf16⟩
  | 52 => ⟨S1x128x114688, .f32⟩
  | 53 => ⟨S1x128x1152, .bf16⟩
  | 54 => ⟨S1x128x114688, .f32⟩
  | 55 => ⟨S1x128x114688, .f32⟩
  | 56 => ⟨S_, .f32⟩
  | 57 => ⟨S1x128x114688, .f32⟩
  | 58 => ⟨S1x128x114688, .f32⟩
  | 59 => ⟨S1x128x114688, .f32⟩
  | 60 => ⟨S_, .f32⟩
  | 61 => ⟨S1x128x114688, .f32⟩
  | 62 => ⟨S1x128x114688, .f32⟩
  | 63 => ⟨S_, .f32⟩
  | 64 => ⟨S1x128, .f32⟩
  | 65 => ⟨S1x128, .f32⟩
  | 66 => ⟨S_, .f32⟩
  | 67 => ⟨S1x128, .f32⟩
  | 68 => ⟨S1x128, .i1⟩
  | 69 => ⟨S_, .f32⟩
  | 70 => ⟨S_, .f32⟩
  | 71 => ⟨S1x128, .f32⟩
  | 72 => ⟨S1x128, .f32⟩
  | 73 => ⟨S1x128x1, .f32⟩
  | 74 => ⟨S1x128x16384, .f32⟩
  | 75 => ⟨S1x128x16384, .f32⟩
  | 76 => ⟨S1x128x16384, .f32⟩
  | 77 => ⟨S_, .f32⟩
  | 78 => ⟨S1x128, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S1x128, .i1⟩
  | 87 => ⟨S_, .f32⟩
  | 88 => ⟨S_, .f32⟩
  | 89 => ⟨S1x128, .f32⟩
  | 90 => ⟨S1x128, .f32⟩
  | 91 => ⟨S1x128x1, .f32⟩
  | 92 => ⟨S1x128x114688, .f32⟩
  | 93 => ⟨S1x128x114688, .f32⟩
  | 94 => ⟨S1x128x114688, .f32⟩
  | 95 => ⟨S_, .f32⟩
  | 96 => ⟨S1x128, .f32⟩
  | 97 => ⟨S1x128, .f32⟩
  | 98 => ⟨S1x128, .f32⟩
  | 99 => ⟨S1x128, .f32⟩
  | 100 => ⟨S1x128, .f32⟩
  | 101 => ⟨S1x128, .i1⟩
  | 102 => ⟨S1x128, .f32⟩
  | 103 => ⟨S1x128, .f32⟩
  | 104 => ⟨S1x128, .f32⟩
  | 105 => ⟨S1x128, .f32⟩
  | 106 => ⟨S1x128, .f32⟩
  | 107 => ⟨S1x128, .f32⟩
  | 108 => ⟨S1x128, .f32⟩
  | 109 => ⟨S_, .i32⟩
  | 110 => ⟨S1x128, .i32⟩
  | 111 => ⟨S1x128, .i1⟩
  | 112 => ⟨S_, .i32⟩
  | 113 => ⟨S_, .i32⟩
  | 114 => ⟨S_, .i32⟩
  | 115 => ⟨S1x128, .i32⟩
  | 116 => ⟨S1x128, .i32⟩
  | 117 => ⟨S_, .i32⟩
  | 118 => ⟨S1x128, .i32⟩
  | 119 => ⟨S1x128, .i32⟩
  | 120 => ⟨S_, .i32⟩
  | 121 => ⟨S1x128, .i32⟩
  | 122 => ⟨S1x128, .i32⟩
  | 123 => ⟨S_, .i32⟩
  | 124 => ⟨S_, .i32⟩
  | 125 => ⟨S_, .i32⟩
  | 126 => ⟨S1x128, .i32⟩
  | 127 => ⟨S1x128, .i32⟩
  | _ => ⟨S1x128x2304, .bf16⟩

abbrev hbmTy0_1 (i : Nat) : BufTy := match i % 128 with
  | 0 => ⟨S_, .i32⟩
  | 1 => ⟨S1x128, .i32⟩
  | 2 => ⟨S1x128, .i32⟩
  | 3 => ⟨S1x128x1, .i32⟩
  | 4 => ⟨S_, .i32⟩
  | 5 => ⟨S1x128x1, .i32⟩
  | 6 => ⟨S1x128x1, .i1⟩
  | 7 => ⟨S_, .i32⟩
  | 8 => ⟨S1x128x1, .i32⟩
  | 9 => ⟨S1x128x1, .i32⟩
  | 10 => ⟨S1x128x1, .i32⟩
  | 11 => ⟨S128x1x1, .i32⟩
  | 12 => ⟨S1, .i32⟩
  | 13 => ⟨S_, .i32⟩
  | 14 => ⟨S128x1x1, .i32⟩
  | 15 => ⟨S128x1x1, .i1⟩
  | 16 => ⟨S1x1x1, .i32⟩
  | 17 => ⟨S128x1x1, .i32⟩
  | 18 => ⟨S128x1x1, .i1⟩
  | 19 => ⟨S128x1x1, .i1⟩
  | 20 => ⟨S_, .i1⟩
  | 21 => ⟨S128x1, .i1⟩
  | 22 => ⟨S1x128x1, .f32⟩
  | 23 => ⟨S1x128x1, .i1⟩
  | 24 => ⟨S_, .f32⟩
  | 25 => ⟨S1x128x1, .f32⟩
  | 26 => ⟨S1x128x1, .f32⟩
  | 27 => ⟨S1x128, .f32⟩
  | 28 => ⟨S1x128x1, .i32⟩
  | 29 => ⟨S_, .i32⟩
  | 30 => ⟨S1x128x1, .i32⟩
  | 31 => ⟨S1x128x1, .i1⟩
  | 32 => ⟨S_, .i32⟩
  | 33 => ⟨S1x128x1, .i32⟩
  | 34 => ⟨S1x128x1, .i32⟩
  | 35 => ⟨S1x128x1, .i32⟩
  | 36 => ⟨S128x1x1, .i32⟩
  | 37 => ⟨S1, .i32⟩
  | 38 => ⟨S_, .i32⟩
  | 39 => ⟨S128x1x1, .i32⟩
  | 40 => ⟨S128x1x1, .i1⟩
  | 41 => ⟨S1x1x1, .i32⟩
  | 42 => ⟨S128x1x1, .i32⟩
  | 43 => ⟨S128x1x1, .i1⟩
  | 44 => ⟨S128x1x1, .i1⟩
  | 45 => ⟨S_, .i1⟩
  | 46 => ⟨S128x1, .i1⟩
  | 47 => ⟨S1x128x1, .f32⟩
  | 48 => ⟨S1x128x1, .i1⟩
  | 49 => ⟨S_, .f32⟩
  | 50 => ⟨S1x128x1, .f32⟩
  | 51 => ⟨S1x128x1, .f32⟩
  | 52 => ⟨S1x128, .f32⟩
  | 53 => ⟨S1x128, .f32⟩
  | 54 => ⟨S_, .i32⟩
  | 55 => ⟨S1x128, .i32⟩
  | 56 => ⟨S1x128, .i1⟩
  | 57 => ⟨S1x128, .f32⟩
  | 58 => ⟨S_, .f32⟩
  | 59 => ⟨S_, .f32⟩
  | 60 => ⟨S1x128, .f32⟩
  | 61 => ⟨S1x128, .f32⟩
  | _ => ⟨S1x128x2304, .bf16⟩

abbrev hbmTy (i : Nat) : BufTy := match i / 128 with
  | 0 => hbmTy0_0 i
  | 1 => hbmTy0_1 i
  | _ => ⟨S1x128x2304, .bf16⟩

abbrev bufTy : (tb : Table) → Fin (tcTables nBuf tb) → BufTy
  | .hbm, ⟨i, _⟩ => hbmTy i
  | .local _ .vmem, ⟨0, _⟩ => ⟨S16384x2304, .fp8e4m3⟩
  | .local _ .vmem, ⟨1, _⟩ => ⟨S16384x2304, .bf16⟩
  | _, _ => ⟨S1x128x2304, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_call2_v0 : Ref sig .tc := ⟨.hbm, 70, rfl⟩
abbrev main_call2_v1 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_call3_v0 : Ref sig .tc := ⟨.hbm, 88, rfl⟩
abbrev main_call3_v1 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_16 : Ref sig .tc := ⟨.hbm, 109, rfl⟩
abbrev main_v81 : Ref sig .tc := ⟨.hbm, 110, rfl⟩
abbrev main_v82 : Ref sig .tc := ⟨.hbm, 111, rfl⟩
abbrev main_c_17 : Ref sig .tc := ⟨.hbm, 112, rfl⟩
abbrev main_c_18 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_v83 : Ref sig .tc := ⟨.hbm, 119, rfl⟩
abbrev main_c_19 : Ref sig .tc := ⟨.hbm, 120, rfl⟩
abbrev main_v84 : Ref sig .tc := ⟨.hbm, 121, rfl⟩
abbrev main_v85 : Ref sig .tc := ⟨.hbm, 122, rfl⟩
abbrev main_c_20 : Ref sig .tc := ⟨.hbm, 123, rfl⟩
abbrev main_c_21 : Ref sig .tc := ⟨.hbm, 124, rfl⟩
abbrev main_call5_v0 : Ref sig .tc := ⟨.hbm, 125, rfl⟩
abbrev main_call5_v1 : Ref sig .tc := ⟨.hbm, 126, rfl⟩
abbrev main_call5_v2 : Ref sig .tc := ⟨.hbm, 127, rfl⟩
abbrev main_call5_v3 : Ref sig .tc := ⟨.hbm, 128, rfl⟩
abbrev main_call5_v4 : Ref sig .tc := ⟨.hbm, 129, rfl⟩
abbrev main_v86 : Ref sig .tc := ⟨.hbm, 130, rfl⟩
abbrev main_v87 : Ref sig .tc := ⟨.hbm, 131, rfl⟩
abbrev main_call6_c : Ref sig .tc := ⟨.hbm, 132, rfl⟩
abbrev main_call6_v0 : Ref sig .tc := ⟨.hbm, 133, rfl⟩
abbrev main_call6_v1 : Ref sig .tc := ⟨.hbm, 134, rfl⟩
abbrev main_call6_c_0 : Ref sig .tc := ⟨.hbm, 135, rfl⟩
abbrev main_call6_v2 : Ref sig .tc := ⟨.hbm, 136, rfl⟩
abbrev main_call6_v3 : Ref sig .tc := ⟨.hbm, 137, rfl⟩
abbrev main_call6_v4 : Ref sig .tc := ⟨.hbm, 138, rfl⟩
abbrev main_call6_v5 : Ref sig .tc := ⟨.hbm, 139, rfl⟩
abbrev main_call6_c_1 : Ref sig .tc := ⟨.hbm, 140, rfl⟩
abbrev main_call6_c_2 : Ref sig .tc := ⟨.hbm, 141, rfl⟩
abbrev main_call6_v6 : Ref sig .tc := ⟨.hbm, 142, rfl⟩
abbrev main_call6_v7 : Ref sig .tc := ⟨.hbm, 143, rfl⟩
abbrev main_call6_v8 : Ref sig .tc := ⟨.hbm, 144, rfl⟩
abbrev main_call6_v9 : Ref sig .tc := ⟨.hbm, 145, rfl⟩
abbrev main_call6_v10 : Ref sig .tc := ⟨.hbm, 146, rfl⟩
abbrev main_call6_v11 : Ref sig .tc := ⟨.hbm, 147, rfl⟩
abbrev main_call6_c_3 : Ref sig .tc := ⟨.hbm, 148, rfl⟩
abbrev main_call6_v12 : Ref sig .tc := ⟨.hbm, 149, rfl⟩
abbrev main_call6_v13 : Ref sig .tc := ⟨.hbm, 150, rfl⟩
abbrev main_call6_v14 : Ref sig .tc := ⟨.hbm, 151, rfl⟩
abbrev main_call6_cst : Ref sig .tc := ⟨.hbm, 152, rfl⟩
abbrev main_call6_v15 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_call7_c : Ref sig .tc := ⟨.hbm, 157, rfl⟩
abbrev main_call7_v0 : Ref sig .tc := ⟨.hbm, 158, rfl⟩
abbrev main_call7_v1 : Ref sig .tc := ⟨.hbm, 159, rfl⟩
abbrev main_call7_c_0 : Ref sig .tc := ⟨.hbm, 160, rfl⟩
abbrev main_call7_v2 : Ref sig .tc := ⟨.hbm, 161, rfl⟩
abbrev main_call7_v3 : Ref sig .tc := ⟨.hbm, 162, rfl⟩
abbrev main_call7_v4 : Ref sig .tc := ⟨.hbm, 163, rfl⟩
abbrev main_call7_v5 : Ref sig .tc := ⟨.hbm, 164, rfl⟩
abbrev main_call7_c_1 : Ref sig .tc := ⟨.hbm, 165, rfl⟩
abbrev main_call7_c_2 : Ref sig .tc := ⟨.hbm, 166, rfl⟩
abbrev main_call7_v6 : Ref sig .tc := ⟨.hbm, 167, rfl⟩
abbrev main_call7_v7 : Ref sig .tc := ⟨.hbm, 168, rfl⟩
abbrev main_call7_v8 : Ref sig .tc := ⟨.hbm, 169, rfl⟩
abbrev main_call7_v9 : Ref sig .tc := ⟨.hbm, 170, rfl⟩
abbrev main_call7_v10 : Ref sig .tc := ⟨.hbm, 171, rfl⟩
abbrev main_call7_v11 : Ref sig .tc := ⟨.hbm, 172, rfl⟩
abbrev main_call7_c_3 : Ref sig .tc := ⟨.hbm, 173, rfl⟩
abbrev main_call7_v12 : Ref sig .tc := ⟨.hbm, 174, rfl⟩
abbrev main_call7_v13 : Ref sig .tc := ⟨.hbm, 175, rfl⟩
abbrev main_call7_v14 : Ref sig .tc := ⟨.hbm, 176, rfl⟩
abbrev main_call7_cst : Ref sig .tc := ⟨.hbm, 177, rfl⟩
abbrev main_call7_v15 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_c_22 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_cst_23 : Ref sig .tc := ⟨.hbm, 186, rfl⟩
abbrev main_call9_v0 : Ref sig .tc := ⟨.hbm, 187, rfl⟩
abbrev main_call9_v1 : Ref sig .tc := ⟨.hbm, 188, rfl⟩
abbrev main_v97 : Ref sig .tc := ⟨.hbm, 189, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16384x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Blocks.lean ====
/- What one grid point of the kernel computes from the blocks it loads, as functions of those blocks: the two tiers'
   contributions to the running sums and to the running target entries. The tail tier's block is worked through in seven
   chunks of 256 vocabulary entries, and each chunk's product in nine tiles of 256 columns. -/
module

public import proofs.«01_k».proof.Proof.Gen.KernelIdeal.Skeleton
public import Idealize.ShloMosaic.Lib.Pipeline.Value

@[expose] public section

noncomputable section

namespace Cert.TwoTier

open Idealize.ShloMosaic Cert.KernelIdeal Cert.KernelIdeal.Gen

/-- The bytes of chunk `c` and column tile `k` of a tail block, one column per vocabulary entry. -/
def tileCodes (x3 : Vec Ideal S1792x1152 .i8) (c k : ℕ) (hc : c < 7) (hk : k < 9) : IVec S128x256 8 :=
  transpose S128x256 [1, 0] (View.ld x3 (Rect.unit (s := S1792x1152) ![256 * c, 128 * k] S256x128.size fun a => match a with
    | ⟨0, _⟩ => by show 256 * c + 256 ≤ 1792; omega
    | ⟨1, _⟩ => by show 128 * k + 128 ≤ 1152; omega)) transposes_S256x128_p1_0_S128x256

/-- Row `g` of chunk `c` of a tail block's scales. -/
def tileScale (x4 : Vec Ideal S18x1792 .bf16) (c g : ℕ) (hc : c < 7) (hg : g < 18) : Vec Ideal S1x256 .bf16 :=
  View.ld x4 (Rect.unit (s := S18x1792) ![g, 256 * c] S1x256.size fun a => match a with
    | ⟨0, _⟩ => by show g + 1 ≤ 18; omega
    | ⟨1, _⟩ => by show 256 * c + 256 ≤ 1792; omega)

/-- Every byte of a tile twice, one above the other: byte `j` stands in rows `2 j` and `2 j + 1`. -/
def broadcastRows (v : IVec S128x256 8) : IVec S256x256 32 :=
  shapeCast S256x256 (broadcastTo S128x2x256 (shapeCast S128x1x256 (shapeCast S128x1x256 (extui 32
        v natLt_8_32) shapeCasts_S128x256_S128x1x256)
        shapeCasts_S128x1x256_S128x1x256) broadcasts_S128x1x256_S128x2x256) shapeCasts_S128x2x256_S256x256

/-- Set in the even rows of a tile. -/
def evenRow : IVec S256x256 1 :=
  cmpi .eq (andi (iota .tc S256x256 32 [0] iota_S256x256_d0_w32) (broadcast S256x256 1#32)) (broadcast S256x256 0#32)

/-- The value of each weight of a tile: its bytes' low nibbles where `m` is set and high nibbles elsewhere. -/
def codeRows (m : IVec S256x256 1) (v : IVec S128x256 8) : FVec Ideal S256x256 .bf16 :=
  sitofp .bf16 (trunci 4 (select
    m
    (shrsi (shli (broadcastRows v) (broadcast S256x256 28#32)) (broadcast S256x256 28#32))
    (shrsi (shli (broadcastRows v) (broadcast S256x256 24#32)) (broadcast S256x256 28#32))) natLt_4_32)

/-- A tile's weights, each half of the rows under its own row of scales. -/
def scaledRows (m : IVec S256x256 1) (v : IVec S128x256 8) (s t : Vec Ideal S1x256 .bf16) : FVec Ideal S256x256 .bf16 :=
  concatenate S256x256 0
    [⟨S128x256, mulf (extractStridedSlice S128x256 ![0, 0] (codeRows m v) slices_S256x256_o0_0_S128x256)
        (broadcastTo S128x256 (shapeCast S1x256 s shapeCasts_S1x256_S1x256) broadcasts_S1x256_S128x256)⟩,
      ⟨S128x256, mulf (extractStridedSlice S128x256 ![128, 0] (codeRows m v) slices_S256x256_o128_0_S128x256)
        (broadcastTo S128x256 (shapeCast S1x256 t shapeCasts_S1x256_S1x256) broadcasts_S1x256_S128x256)⟩]
    concatenates_S128x256_S128x256_S256x256_d0

/-- `broadcastRows`, its definition read from right to left. -/
theorem broadcastRows_fold (v : IVec S128x256 8) : (shapeCast S256x256 (broadcastTo S128x2x256 (shapeCast S128x1x256 (shapeCast S128x1x256 (extui 32
        v natLt_8_32) shapeCasts_S128x256_S128x1x256)
        shapeCasts_S128x1x256_S128x1x256) broadcasts_S128x1x256_S128x2x256) shapeCasts_S128x2x256_S256x256) = broadcastRows v := rfl

/-- `codeRows`, its definition read from right to left. -/
theorem codeRows_fold (m : IVec S256x256 1) (v : IVec S128x256 8) : sitofp .bf16 (trunci 4 (select
    m
    (shrsi (shli (broadcastRows v) (broadcast S256x256 28#32)) (broadcast S256x256 28#32))
    (shrsi (shli (broadcastRows v) (broadcast S256x256 24#32)) (broadcast S256x256 28#32))) natLt_4_32) = codeRows m v := rfl

/-- `scaledRows`, its definition read from right to left. -/
theorem scaledRows_fold (m : IVec S256x256 1) (v : IVec S128x256 8) (s t : Vec Ideal S1x256 .bf16) : concatenate S256x256 0
    [⟨S128x256, mulf (extractStridedSlice S128x256 ![0, 0] (codeRows m v) slices_S256x256_o0_0_S128x256)
        (broadcastTo S128x256 (shapeCast S1x256 s shapeCasts_S1x256_S1x256) broadcasts_S1x256_S128x256)⟩,
      ⟨S128x256, mulf (extractStridedSlice S128x256 ![128, 0] (codeRows m v) slices_S256x256_o128_0_S128x256)
        (broadcastTo S128x256 (shapeCast S1x256 t shapeCasts_S1x256_S1x256) broadcasts_S1x256_S128x256)⟩]
    concatenates_S128x256_S128x256_S256x256_d0 = scaledRows m v s t := rfl

/-- The scaled weights of chunk `c` and column tile `k`. -/
def tileWeights (x3 : Vec Ideal S1792x1152 .i8) (x4 : Vec Ideal S18x1792 .bf16) (c k : ℕ) (hc : c < 7) (hk : k < 9) :
    FVec Ideal S256x256 .bf16 :=
  scaledRows evenRow (tileCodes x3 c k hc hk) (tileScale x4 c (2 * k) hc (by omega)) (tileScale x4 c (2 * k + 1) hc (by omega))

/-- The 256 columns of the activations that column tile `k` multiplies. -/
def tileX (x0 : Vec Ideal S128x2304 .bf16) (k : ℕ) (hk : k < 9) : FVec Ideal S128x256 .bf16 :=
  extractStridedSlice S128x256 ![0, 256 * k] (k0_pay14 x0) ⟨rfl, fun a => match a with
    | ⟨0, _⟩ => by show 0 + 128 ≤ 128; omega
    | ⟨1, _⟩ => by show 256 * k + 256 ≤ 2304; omega⟩

/-- Chunk `c`'s product after its first `n` column tiles. -/
def chunkAcc (x0 : Vec Ideal S128x2304 .bf16) (x3 : Vec Ideal S1792x1152 .i8) (x4 : Vec Ideal S18x1792 .bf16) (c : ℕ) (hc : c < 7) :
    (n : ℕ) → n ≤ 9 → FVec Ideal S128x256 .f32
  | 0, _ => k0_pay20
  | n + 1, h => addf (chunkAcc x0 x3 x4 c hc n (Nat.le_of_succ_le h))
      (matmul dot_S128x256_S256x256_S128x256_1_0_0_1_n_n none (tileX x0 n h) (tileWeights x3 x4 c n hc h)
        (constant S128x256 .f32 0x00000000#32))

/-- The capped logits over the cap of chunk `c`. -/
def chunkT (x0 : Vec Ideal S128x2304 .bf16) (x3 : Vec Ideal S1792x1152 .i8) (x4 : Vec Ideal S18x1792 .bf16) (c : ℕ) (hc : c < 7) :
    FVec Ideal S128x256 .f32 :=
  tanh (mulf (chunkAcc x0 x3 x4 c hc 9 le_rfl) (broadcast S128x256 (Named.named (F := Ideal) κ "inv_softcap" (φ := .f32) 0x3D088889#32)))

/-- A running sum of exponentials, lane by lane, after two halves of 128 entries more. -/
def sumStep (t : FVec Ideal S128x256 .f32) (s : Vec Ideal S128x128 .f32) : Vec Ideal S128x128 .f32 :=
  let e := exp2 (mulf t (broadcast S128x256 (Named.named (F := Ideal) κ "softcap_log2e" (φ := .f32) 0x422D1F97#32)))
  shapeCast S128x128 (addf (addf s (extractStridedSlice S128x128 ![0, 0] e slices_S128x256_o0_0_S128x128))
    (extractStridedSlice S128x128 ![0, 128] e slices_S128x256_o0_128_S128x128)) shapeCasts_S128x128_S128x128

/-- The running target entries, lane by lane, after the 256 entries from `base` on. -/
def hitStep (base : BitVec 32) (tgt : IVec S128x128 32) (t : FVec Ideal S128x256 .f32) (h : Vec Ideal S128x128 .f32) :
    Vec Ideal S128x128 .f32 :=
  let lane := iota .tc S128x128 32 [1] iota_S128x128_d1_w32
  let at' := subi tgt (broadcast S128x128 base)
  shapeCast S128x128 (select (cmpi .eq lane (subi at' (broadcast S128x128 128#32)))
    (extractStridedSlice S128x128 ![0, 128] t slices_S128x256_o0_128_S128x128)
    (select (cmpi .eq lane (subi at' (broadcast S128x128 0#32)))
      (extractStridedSlice S128x128 ![0, 0] t slices_S128x256_o0_0_S128x128) h)) shapeCasts_S128x128_S128x128

/-- The first entry of the head's block at grid point `i`, as the kernel computes it in 32-bit words. -/
def headBase (i : grid0.Coords) : BitVec 32 := Scalar.muli (BitVec.ofNat 32 (i 0).val) 256#32

/-- The first entry of chunk `c` at grid point `i`, as the kernel computes it in 32-bit words. -/
def chunkBase (i : grid0.Coords) (c : ℕ) : BitVec 32 :=
  Scalar.addi (Scalar.addi 16384#32 (Scalar.muli (BitVec.ofNat 32 (i 0).val) 1792#32)) (BitVec.ofNat 32 (256 * c))

/-- The tail's running sum after the first `n` chunks of a block. -/
def tailSums (x0 : Vec Ideal S128x2304 .bf16) (x3 : Vec Ideal S1792x1152 .i8) (x4 : Vec Ideal S18x1792 .bf16) (s : Vec Ideal S128x128 .f32) :
    (n : ℕ) → n ≤ 7 → Vec Ideal S128x128 .f32
  | 0, _ => s
  | n + 1, h => sumStep (chunkT x0 x3 x4 n h) (tailSums x0 x3 x4 s n (Nat.le_of_succ_le h))

/-- The running target entries after the first `n` chunks of a block. -/
def tailHits (i : grid0.Coords) (x0 : Vec Ideal S128x2304 .bf16) (x3 : Vec Ideal S1792x1152 .i8) (x4 : Vec Ideal S18x1792 .bf16)
    (tgt : Vec Ideal S128x128 .i32) (s : Vec Ideal S128x128 .f32) : (n : ℕ) → n ≤ 7 → Vec Ideal S128x128 .f32
  | 0, _ => s
  | n + 1, h => hitStep (chunkBase i n) tgt (chunkT x0 x3 x4 n h) (tailHits i x0 x3 x4 tgt s n (Nat.le_of_succ_le h))

end Cert.TwoTier

end
-- ==== Proof.Softcap.lean ====
/- The real mathematics of the two-tier head: the soft cap, its exponential, and the logarithm of a sum of
   exponentials computed with and without subtracting the largest term. -/
module

public import Idealize.ShloMosaic.PureOps.Ideal
public import Idealize.ShloMosaic.PureOps.Ideal.Laws
public import Mathlib.Analysis.SpecialFunctions.Log.Basic
public import Mathlib.Analysis.SpecialFunctions.Pow.Real

@[expose] public section

noncomputable section

namespace Cert.TwoTier

open Idealize.ShloMosaic

/-- The hyperbolic tangent of an extended real, as a real number (it is never infinite). -/
def cap (z : EReal) : ℝ := (Ideal.tanh z).toReal

/-- The hyperbolic tangent of any extended real is a real number. -/
theorem tanh_eq_cap (z : EReal) : Ideal.tanh z = (cap z : EReal) := by
  unfold cap
  induction z with
  | bot => rw [Ideal.tanh_bot]; rfl
  | top => rw [Ideal.tanh_top]; rfl
  | coe r => rw [Ideal.tanh_coe, EReal.toReal_coe]

/-- Two to the power `t · (30 / log 2)` is `e` to the power `30 t`. -/
theorem exp2_scale (t : ℝ) : Ideal.exp2 ((t : EReal) * ((30 * (Real.log 2)⁻¹ : ℝ) : EReal)) = ((Real.exp (30 * t) : ℝ) : EReal) := by
  rw [← EReal.coe_mul, Ideal.exp2_coe]
  congr 1
  have h2 : Real.log 2 ≠ 0 := (Real.log_pos (by norm_num)).ne'
  rw [Real.rpow_eq_pow, Real.rpow_def_of_pos (by norm_num)]
  congr 1
  field_simp

/-- A finite sum of coerced reals is the coercion of the sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The logarithm of a positive real is the real logarithm. -/
theorem log_pos_coe {r : ℝ} (h : 0 < r) : Ideal.log ((r : ℝ) : EReal) = (Real.log r : EReal) := by
  rw [Ideal.log_coe, if_neg (not_le.2 h)]

/-- Subtracting any real `M` before the exponentials and adding it back after the logarithm changes nothing. -/
theorem log_sum_exp_shift {ι : Type*} (s : Finset ι) (l : ι → ℝ) (hs : s.Nonempty) (M : ℝ) :
    Ideal.log (∑ i ∈ s, Ideal.exp ((l i : EReal) - (M : EReal))) + (M : EReal)
      = ((Real.log (∑ i ∈ s, Real.exp (l i)) : ℝ) : EReal) := by
  have h1 : ∀ i ∈ s, Ideal.exp ((l i : EReal) - (M : EReal)) = ((Real.exp (l i - M) : ℝ) : EReal) := fun i _ => by
    rw [← EReal.coe_sub, Ideal.exp_coe]
  rw [Finset.sum_congr rfl h1, coe_sum]
  have hp : 0 < ∑ i ∈ s, Real.exp (l i) := Finset.sum_pos (fun i _ => Real.exp_pos _) hs
  have h2 : ∑ i ∈ s, Real.exp (l i - M) = (∑ i ∈ s, Real.exp (l i)) * Real.exp (-M) := by
    rw [Finset.sum_mul]
    exact Finset.sum_congr rfl fun i _ => by rw [← Real.exp_add, sub_eq_add_neg]
  rw [h2, log_pos_coe (mul_pos hp (Real.exp_pos _)), Real.log_mul hp.ne' (Real.exp_pos _).ne', Real.log_exp,
    ← EReal.coe_add]
  congr 1
  ring

/-- The reference's `logaddexp` of two reals is the logarithm of the sum of their exponentials. -/
theorem logaddexp_coe (a b : ℝ) :
    max (a : EReal) (b : EReal) + Ideal.log1p (Ideal.exp (-(max ((a : EReal) - (b : EReal)) (-((a : EReal) - (b : EReal))))))
      = ((Real.log (Real.exp a + Real.exp b) : ℝ) : EReal) := by
  have hmax : ∀ x y : ℝ, max (x : EReal) (y : EReal) = ((max x y : ℝ) : EReal) := fun x y =>
    (EReal.coe_strictMono.monotone.map_max (a := x) (b := y)).symm
  rw [← EReal.coe_sub, ← EReal.coe_neg, hmax, hmax, ← EReal.coe_neg, Ideal.exp_coe]
  unfold Ideal.log1p
  have hp : 0 < 1 + Real.exp (-max (a - b) (-(a - b))) := by positivity
  rw [← EReal.coe_one, ← EReal.coe_add, log_pos_coe hp, ← EReal.coe_add]
  congr 1
  rw [← Real.log_exp (max a b), ← Real.log_mul (Real.exp_pos _).ne' hp.ne', mul_add, mul_one, ← Real.exp_add]
  congr 1
  rcases le_total a b with h | h
  · rw [max_eq_right h, max_eq_right (by linarith), add_comm]
    congr 2
    ring
  · rw [max_eq_left h, max_eq_left (by linarith)]
    congr 2
    ring

end Cert.TwoTier

end
-- ==== Proof.Sums.lean ====
/- Splitting a finite sum over consecutive indices into equal runs. -/
module

public import Mathlib.Algebra.BigOperators.Fin
public import Mathlib.Data.Fintype.BigOperators

@[expose] public section

namespace Cert.TwoTier

/-- Entry `j` of run `i`, where `a` runs of length `b` fill `n` places. -/
theorem run_lt {a b n : ℕ} (h : a * b = n) (i : Fin a) (j : Fin b) : b * i.val + j.val < n := by
  subst h
  calc b * i.val + j.val < b * i.val + b := Nat.add_lt_add_left j.isLt _
    _ = (i.val + 1) * b := by rw [Nat.add_mul, Nat.one_mul, Nat.mul_comm]
    _ ≤ a * b := Nat.mul_le_mul_right b i.isLt

/-- A sum over `a * b` consecutive indices is the sum over `a` runs of the sums over the `b` entries of each run. -/
theorem sum_runs {M : Type*} [AddCommMonoid M] {a b n : ℕ} (h : a * b = n) (f : Fin n → M) :
    ∑ k, f k = ∑ i : Fin a, ∑ j : Fin b, f ⟨b * i.val + j.val, run_lt h i j⟩ := by
  subst h
  rw [← Fintype.sum_prod_type', ← Equiv.sum_comp finProdFinEquiv]
  refine Fintype.sum_congr _ _ fun p => congrArg f (Fin.ext ?_)
  show p.2.val + b * p.1.val = b * p.1.val + p.2.val
  exact Nat.add_comm _ _

/-- A sum over `2 n` indices is the sum over the even ones plus the sum over the odd ones. -/
theorem sum_even_odd {M : Type*} [AddCommMonoid M] {a n : ℕ} (h : a * 2 = n) (f : Fin n → M) :
    ∑ k, f k = (∑ i : Fin a, f ⟨2 * i.val, by omega⟩) + ∑ i : Fin a, f ⟨2 * i.val + 1, by omega⟩ := by
  rw [sum_runs h, ← Finset.sum_add_distrib]
  exact Finset.sum_congr rfl fun i _ => Fin.sum_univ_two _

end Cert.TwoTier
-- ==== Proof.Spec.lean ====
/- The mathematics of the two-tier head, stated over the argument arrays alone: the capped logits of the two tiers,
   the sums of their exponentials, and the entry a target picks. Both programs are shown to compute these. -/
module

public import proofs.«01_k».proof.Proof.Softcap
public import proofs.«01_k».proof.Proof.Sums
public import Idealize.ShloMosaic.Lib.ValueIdx
public import Idealize.ShloMosaic.Lib.Pointwise

@[expose] public section

noncomputable section

namespace Cert.TwoTier

open Idealize.ShloMosaic

/-- The low half of a byte, read as a signed 4-bit integer. -/
def low (b : BitVec 8) : ℤ := (b.setWidth 4).toInt

/-- The high half of a byte, read as a signed 4-bit integer. -/
def high (b : BitVec 8) : ℤ := ((b >>> 4).setWidth 4).toInt

/-- The argument arrays, over the ideal values: the tokens' activations, the head tier's weights and column scales, the
    tail tier's packed bytes and group scales, and the tokens' targets. -/
structure Args where
  /-- the activations of each token -/
  x : Fin 128 → Fin 2304 → EReal
  /-- the head tier's weights, one row for each vocabulary entry -/
  wh : Fin 16384 → Fin 2304 → EReal
  /-- the head tier's scale of each vocabulary entry -/
  sh : Fin 16384 → EReal
  /-- the tail tier's bytes, two 4-bit codes each -/
  codes : Fin 114688 → Fin 1152 → BitVec 8
  /-- the tail tier's scale of each vocabulary entry and group of 128 columns -/
  st : Fin 114688 → Fin 18 → EReal
  /-- the target of each token -/
  tgt : Fin 128 → BitVec 32

namespace Args

variable (A : Args)

/-- The tail tier's 4-bit code of vocabulary entry `v` at column `k`: the low half of byte `k / 2` for an even column,
    the high half for an odd one. -/
def code (v : Fin 114688) (k : Fin 2304) : ℤ :=
  if k.val % 2 = 0 then low (A.codes v ⟨k.val / 2, by omega⟩) else high (A.codes v ⟨k.val / 2, by omega⟩)

/-- The tail tier's weight: the code times the scale of its group. -/
def wt (v : Fin 114688) (k : Fin 2304) : EReal :=
  (((A.code v k : ℤ) : ℝ) : EReal) * A.st v ⟨k.val / 128, by omega⟩

/-- The head tier's logit of token `s` and entry `v`, divided by the cap. -/
def headZ (s : Fin 128) (v : Fin 16384) : EReal :=
  (∑ k : Fin 2304, A.x s k * A.wh v k) * (A.sh v * ((1 / 30 : ℝ) : EReal))

/-- The tail tier's logit of token `s` and entry `v`, divided by the cap. -/
def tailZ (s : Fin 128) (v : Fin 114688) : EReal :=
  (∑ k : Fin 2304, A.x s k * A.wt v k) * ((1 / 30 : ℝ) : EReal)

/-- The head tier's capped logit over the cap. -/
def headT (s : Fin 128) (v : Fin 16384) : ℝ := cap (A.headZ s v)

/-- The tail tier's capped logit over the cap. -/
def tailT (s : Fin 128) (v : Fin 114688) : ℝ := cap (A.tailZ s v)

/-- The sum of the exponentials of the head tier's capped logits. -/
def headSum (s : Fin 128) : ℝ := ∑ v, Real.exp (30 * A.headT s v)

/-- The sum of the exponentials of the tail tier's capped logits. -/
def tailSum (s : Fin 128) : ℝ := ∑ v, Real.exp (30 * A.tailT s v)

theorem headSum_pos (s : Fin 128) : 0 < A.headSum s :=
  Finset.sum_pos (fun _ _ => Real.exp_pos _) ⟨0, Finset.mem_univ _⟩

theorem tailSum_pos (s : Fin 128) : 0 < A.tailSum s :=
  Finset.sum_pos (fun _ _ => Real.exp_pos _) ⟨0, Finset.mem_univ _⟩

/-- The capped logit over the cap of entry `n` of the whole vocabulary, head tier first; zero past its end. -/
def vocabT (s : Fin 128) (n : ℕ) : ℝ :=
  if h : n < 16384 then A.headT s ⟨n, h⟩
  else if h : n - 16384 < 114688 then A.tailT s ⟨n - 16384, h⟩ else 0

/-- The logarithm of the sum of exponentials of the head tier. -/
def lseHead (s : Fin 128) : ℝ := Real.log (A.headSum s)

/-- The logarithm of the sum of exponentials of the tail tier. -/
def lseTail (s : Fin 128) : ℝ := Real.log (A.tailSum s)

/-- The logarithm of the sum of exponentials of the whole vocabulary. -/
def lse (s : Fin 128) : ℝ := Real.log (A.headSum s + A.tailSum s)

/-- The target's log-probability: the target's capped logit less the logarithm of the sum, zero for a negative target. -/
def logprob (s : Fin 128) : ℝ :=
  if 0 ≤ (A.tgt s).toInt then 30 * A.vocabT s (A.tgt s).toNat - A.lse s else 0

end Args

end Cert.TwoTier

end
-- ==== Proof.TileValues.lean ====
/- The tail tile's weights read entry by entry: the packed bytes' 4-bit codes times the scales of their groups. -/
module

public import proofs.«01_k».proof.Proof.Blocks
public import proofs.«01_k».proof.Proof.Spec

@[expose] public section

noncomputable section

namespace Cert.TwoTier

open Idealize.ShloMosaic Cert.KernelIdeal Cert.KernelIdeal.Gen

/-- The row's last bit is clear exactly in the even rows. -/
theorem even_word (r : Fin 256) :
    IntOp.cmpi .eq (IntOp.andi (BitVec.ofNat 32 r.val) 1#32) 0#32 = if r.val % 2 = 0 then 1#1 else 0#1 := by
  revert r; decide

/-- Shifting a byte up by 28 bits and back down leaves its low half, as a signed number. -/
theorem low_word (b : BitVec 8) :
    (BitVec.setWidth 4 (IntOp.shrsi .vector (IntOp.shli .vector (BitVec.setWidth 32 b) 28#32) 28#32)).toInt = low b := by
  revert b; decide

/-- Shifting a byte up by 24 bits and down by 28 leaves its high half, as a signed number. -/
theorem high_word (b : BitVec 8) :
    (BitVec.setWidth 4 (IntOp.shrsi .vector (IntOp.shli .vector (BitVec.setWidth 32 b) 24#32) 28#32)).toInt = high b := by
  revert b; decide

/-- The code in row `r`, column `l` of a tile. -/
theorem codeRows_apply (v : IVec S128x256 8) (r l : Fin 256) : codeRows evenRow v (ix2 r l)
    = (((if r.val % 2 = 0 then low (v (ix2 ⟨r.val / 2, by omega⟩ l)) else high (v (ix2 ⟨r.val / 2, by omega⟩ l)) : ℤ) : ℝ) : EReal) := by
  unfold codeRows evenRow broadcastRows
  pointwise
  rw [even_word]
  by_cases h : r.val % 2 = 0
  · rw [if_pos h, if_pos h, ← low_word]
    rfl
  · rw [if_neg h, if_neg h, ← high_word]
    rfl

/-- The weight in row `r`, column `l` of a tile. -/
theorem scaledRows_apply (v : IVec S128x256 8) (s t : Vec Ideal S1x256 .bf16) (r l : Fin 256) : scaledRows evenRow v s t (ix2 r l)
    = codeRows evenRow v (ix2 r l) * (if r.val < 128 then s (ix2 0 l) else t (ix2 0 l)) := by
  unfold scaledRows
  generalize codeRows evenRow v = w
  pointwise
  by_cases h : r.val < 128
  · rw [dif_pos h, if_pos h]
  · rw [dif_neg h, if_neg h]
    exact congrArg (fun x => w (ix2 x l) * t (ix2 0 l)) (Fin.ext (by show 128 + (r.val - 128) = r.val; omega))

variable (x0 : Vec Ideal S128x2304 .bf16) (x3 : Vec Ideal S1792x1152 .i8) (x4 : Vec Ideal S18x1792 .bf16)

/-- A tile's byte `j` of entry `l`, in the block it was loaded from. -/
theorem tileCodes_apply (c k : ℕ) (hc : c < 7) (hk : k < 9) (j : Fin 128) (l : Fin 256) : tileCodes x3 c k hc hk (ix2 j l)
    = x3 (ix2 ⟨256 * c + l.val, by omega⟩ ⟨128 * k + j.val, by omega⟩) := by
  unfold tileCodes
  rw [View.ld_unit]
  pointwise

/-- A scale row's entry `l`, in the block it was loaded from. -/
theorem tileScale_apply (c g : ℕ) (hc : c < 7) (hg : g < 18) (l : Fin 256) : tileScale x4 c g hc hg (ix2 0 l)
    = x4 (ix2 ⟨g, hg⟩ ⟨256 * c + l.val, by omega⟩) := by
  unfold tileScale
  rw [View.ld_unit]
  pointwise

/-- A tile's activations, in the block they were loaded from. -/
theorem tileX_apply (k : ℕ) (hk : k < 9) (r : Fin 128) (x : Fin 256) : tileX x0 k hk (ix2 r x)
    = x0 (ix2 r ⟨256 * k + x.val, by omega⟩) := by
  unfold tileX k0_pay14
  pointwise

/-- One tile's product added to what was there, at an entry. -/
theorem addProduct_apply (acc : FVec Ideal S128x256 .f32) (a : FVec Ideal S128x256 .bf16) (w : FVec Ideal S256x256 .bf16) (r : Fin 128)
    (l : Fin 256) : addf acc (matmul dot_S128x256_S256x256_S128x256_1_0_0_1_n_n none a w (constant S128x256 .f32 0x00000000#32)) (ix2 r l)
      = acc (ix2 r l) + ∑ x : Fin 256, a (ix2 r x) * w (ix2 x l) := by
  pointwise

/-- A chunk's product after `n` column tiles: the sum over the tiles of the sums over their columns. -/
theorem chunkAcc_apply (c : ℕ) (hc : c < 7) (r : Fin 128) (l : Fin 256) (n : ℕ) (hn : n ≤ 9) :
    chunkAcc x0 x3 x4 c hc n hn (ix2 r l)
      = ∑ k : Fin n, ∑ x : Fin 256, x0 (ix2 r ⟨256 * k.val + x.val, by omega⟩) * tileWeights x3 x4 c k.val hc (by omega) (ix2 x l) := by
  induction n with
  | zero =>
    unfold chunkAcc k0_pay20
    pointwise
    rfl
  | succ n ih =>
    unfold chunkAcc
    have h1 : (∑ x : Fin 256, tileX x0 n hn (ix2 r x) * tileWeights x3 x4 c n hc hn (ix2 x l) : EReal)
        = ∑ x : Fin 256, x0 (ix2 r ⟨256 * n + x.val, by omega⟩) * tileWeights x3 x4 c n hc hn (ix2 x l) :=
      Finset.sum_congr rfl fun x _ => congrArg (fun y : EReal => y * tileWeights x3 x4 c n hc hn (ix2 x l)) (tileX_apply x0 n hn r x)
    rw [addProduct_apply, ih, h1]
    exact (Fin.sum_univ_castSucc (M := EReal) (fun k : Fin (n + 1) => ∑ x : Fin 256, x0 (ix2 r ⟨256 * k.val + x.val, by omega⟩)
      * tileWeights x3 x4 c k.val hc (by omega) (ix2 x l))).symm

/-- What a tail block of the vocabulary holds: the bytes and the scales of the 1792 entries from `1792 t` on. -/
structure TailBlock (A : Args) (t : ℕ) (ht : t < 64) : Prop where
  /-- the bytes -/
  codes : ∀ (v : Fin 1792) (j : Fin 1152), x3 (ix2 v j) = A.codes ⟨1792 * t + v.val, by omega⟩ j
  /-- the scales -/
  scales : ∀ (g : Fin 18) (v : Fin 1792), x4 (ix2 g v) = A.st ⟨1792 * t + v.val, by omega⟩ g

variable {x0 x3 x4} {A : Args} {t : ℕ} {ht : t < 64}

/-- A tile's weights are the tail tier's. -/
theorem tileWeights_eq (H : TailBlock x3 x4 A t ht) (c k : ℕ) (hc : c < 7) (hk : k < 9) (x l : Fin 256) :
    tileWeights x3 x4 c k hc hk (ix2 x l)
      = A.wt ⟨1792 * t + (256 * c + l.val), by omega⟩ ⟨256 * k + x.val, by omega⟩ := by
  unfold tileWeights
  rw [scaledRows_apply, codeRows_apply, tileScale_apply, tileScale_apply, tileCodes_apply, H.codes, H.scales, H.scales]
  unfold Args.wt Args.code
  have h2 : (256 * k + x.val) % 2 = x.val % 2 := by omega
  have hb : 128 * k + x.val / 2 = (256 * k + x.val) / 2 := by omega
  congr 1
  · simp only [h2, hb]
  · by_cases h : x.val < 128
    · rw [if_pos h]
      exact congrArg (A.st _) (Fin.ext (by show 2 * k = (256 * k + x.val) / 128; omega))
    · rw [if_neg h]
      exact congrArg (A.st _) (Fin.ext (by show 2 * k + 1 = (256 * k + x.val) / 128; omega))

/-- A chunk's capped logits over the cap are the tail tier's. -/
theorem chunkT_eq (hx : ∀ r k, x0 (ix2 r k) = A.x r k) (H : TailBlock x3 x4 A t ht) (c : ℕ) (hc : c < 7) (r : Fin 128) (l : Fin 256) :
    chunkT x0 x3 x4 c hc (ix2 r l) = ((A.tailT r ⟨1792 * t + (256 * c + l.val), by omega⟩ : ℝ) : EReal) := by
  have hk : Named.named (F := Ideal) κ "inv_softcap" (φ := .f32) 0x3D088889#32 = ((1 / 30 : ℝ) : EReal) :=
    IdealRules.named_const.ideal_named_scalar _ _ _ _ rfl
  have hs : chunkAcc x0 x3 x4 c hc 9 le_rfl (ix2 r l)
      = ∑ k : Fin 2304, A.x r k * A.wt ⟨1792 * t + (256 * c + l.val), by omega⟩ k := by
    rw [chunkAcc_apply, sum_runs (a := 9) (b := 256) rfl]
    exact Finset.sum_congr rfl fun k _ => Finset.sum_congr rfl fun x _ => by rw [hx, tileWeights_eq H]
  show Ideal.tanh (chunkAcc x0 x3 x4 c hc 9 le_rfl (ix2 r l) * Named.named (F := Ideal) κ "inv_softcap" (φ := .f32) 0x3D088889#32) = _
  rw [hs, hk]
  exact tanh_eq_cap _

end Cert.TwoTier

end
-- ==== Proof.StepValues.lean ====
/- One step of the kernel's running sums and running target entries, read over a row of lanes. -/
module

public import proofs.«01_k».proof.Proof.TileValues

@[expose] public section

noncomputable section

namespace Cert.TwoTier

open Idealize.ShloMosaic Cert.KernelIdeal Cert.KernelIdeal.Gen

/-- The sum over the lanes of row `r` of a buffer. -/
def rowTotal (s : Vec Ideal S128x128 .f32) (r : Fin 128) : EReal := ∑ l : Fin 128, s (ix2 r l)

/-- A step adds 256 exponentials to a row's total. -/
theorem rowTotal_sumStep (t : FVec Ideal S128x256 .f32) (s : Vec Ideal S128x128 .f32) (r : Fin 128) (T : Fin 256 → ℝ)
    (hT : ∀ l, t (ix2 r l) = ((T l : ℝ) : EReal)) :
    rowTotal (sumStep t s) r = rowTotal s r + ((∑ l, Real.exp (30 * T l) : ℝ) : EReal) := by
  have hk : Named.named (F := Ideal) κ "softcap_log2e" (φ := .f32) 0x422D1F97#32 = ((30 * (Real.log 2)⁻¹ : ℝ) : EReal) :=
    IdealRules.named_const.ideal_named_scalar _ _ _ _ rfl
  have he : ∀ x : Fin 256, Ideal.exp2 (t (ix2 r x) * Named.named (F := Ideal) κ "softcap_log2e" (φ := .f32) 0x422D1F97#32)
      = ((Real.exp (30 * T x) : ℝ) : EReal) := fun x => by rw [hT, hk, exp2_scale]
  have hs : ∀ l : Fin 128, sumStep t s (ix2 r l)
      = s (ix2 r l) + (((Real.exp (30 * T ⟨128 * (0 : Fin 2).val + l.val, by omega⟩) : ℝ) : EReal)
        + ((Real.exp (30 * T ⟨128 * (1 : Fin 2).val + l.val, by omega⟩) : ℝ) : EReal)) := fun l => by
    rw [← he, ← he, ← add_assoc]
    unfold sumStep
    pointwise
    rfl
  unfold rowTotal
  rw [sum_runs (a := 2) (b := 128) rfl (fun l => Real.exp (30 * T l)), Fin.sum_univ_two, EReal.coe_add, ← coe_sum, ← coe_sum,
    ← Finset.sum_add_distrib, ← Finset.sum_add_distrib]
  exact Finset.sum_congr rfl fun l _ => hs l

/-- A lane meets a target word less a base word less an offset exactly when the target is the base plus the offset plus the lane. -/
theorem lane_word (w base o : BitVec 32) (l : Fin 128) (hw : w.toNat < 131072) (hb : base.toNat + 256 ≤ 131072) (ho : o.toNat ≤ 128) :
    IntOp.cmpi .eq (BitVec.ofNat 32 l.val) (IntOp.subi (IntOp.subi w base) o)
      = if w.toNat = base.toNat + o.toNat + l.val then 1#1 else 0#1 := by
  have h : (BitVec.ofNat 32 l.val = w - base - o) ↔ w.toNat = base.toNat + o.toNat + l.val := by
    rw [← BitVec.toNat_inj, BitVec.toNat_sub, BitVec.toNat_sub, BitVec.toNat_ofNat]
    omega
  show BitVec.ofBool (BitVec.ofNat 32 l.val == w - base - o) = _
  by_cases hh : w.toNat = base.toNat + o.toNat + l.val
  · rw [if_pos hh, beq_iff_eq.2 (h.2 hh)]; rfl
  · rw [if_neg hh, beq_eq_false_iff_ne.2 fun e => hh (h.1 e)]; rfl

/-- Row `r` of a buffer holds the target's capped logit over the cap in the target's lane if `P` (the entry has been met),
    and zero everywhere else. -/
def RowHit (A : Args) (r : Fin 128) (P : Prop) (h : Vec Ideal S128x128 .f32) : Prop :=
  ∀ l : Fin 128, ((A.tgt r).toNat % 128 = l.val ∧ P → h (ix2 r l) = ((A.vocabT r (A.tgt r).toNat : ℝ) : EReal))
    ∧ (¬((A.tgt r).toNat % 128 = l.val ∧ P) → h (ix2 r l) = 0)

/-- A step meets the 256 entries from its base on. -/
theorem RowHit.step {A : Args} {r : Fin 128} {P : Prop} {h : Vec Ideal S128x128 .f32} (H : RowHit A r P h) (base : BitVec 32) (b : ℕ)
    (hbase : base.toNat = b) (hb : b % 128 = 0) (hb' : b + 256 ≤ 131072) (tgt : IVec S128x128 32) (htgt : ∀ l, tgt (ix2 r l) = A.tgt r)
    (hr : (A.tgt r).toNat < 131072) (t : FVec Ideal S128x256 .f32) (ht : ∀ x : Fin 256, t (ix2 r x) = ((A.vocabT r (b + x.val) : ℝ) : EReal)) :
    RowHit A r (P ∨ b ≤ (A.tgt r).toNat ∧ (A.tgt r).toNat < b + 256) (hitStep base tgt t h) := by
  intro l
  have e : hitStep base tgt t h (ix2 r l)
      = Scalar.select (IntOp.cmpi .eq (BitVec.ofNat 32 l.val) (IntOp.subi (IntOp.subi (A.tgt r) base) 128#32)) (t (ix2 r ⟨128 + l.val, by omega⟩))
        (Scalar.select (IntOp.cmpi .eq (BitVec.ofNat 32 l.val) (IntOp.subi (IntOp.subi (A.tgt r) base) 0#32)) (t (ix2 r ⟨l.val, by omega⟩))
          (h (ix2 r l))) := by
    rw [← htgt l]
    unfold hitStep
    pointwise
  rw [e, lane_word _ _ _ _ hr (by omega) (by decide), lane_word _ _ _ _ hr (by omega) (by decide), hbase, ht, ht]
  have hl := l.isLt
  obtain ⟨H1, H2⟩ := H l
  by_cases h1 : (A.tgt r).toNat = b + (128#32 : BitVec 32).toNat + l.val
  · rw [if_pos h1]
    have h1' : (A.tgt r).toNat = b + 128 + l.val := h1
    refine ⟨fun _ => ?_, fun c => absurd ⟨by omega, .inr ⟨by omega, by omega⟩⟩ c⟩
    show ((A.vocabT r (b + (128 + l.val)) : ℝ) : EReal) = _
    rw [h1', Nat.add_assoc]
  · rw [if_neg h1]
    have h1' : ¬(A.tgt r).toNat = b + 128 + l.val := h1
    by_cases h0 : (A.tgt r).toNat = b + (0#32 : BitVec 32).toNat + l.val
    · rw [if_pos h0]
      have h0' : (A.tgt r).toNat = b + 0 + l.val := h0
      refine ⟨fun _ => ?_, fun c => absurd ⟨by omega, .inr ⟨by omega, by omega⟩⟩ c⟩
      show ((A.vocabT r (b + l.val) : ℝ) : EReal) = _
      rw [h0', Nat.add_zero]
    · rw [if_neg h0]
      have h0' : ¬(A.tgt r).toNat = b + 0 + l.val := h0
      refine ⟨fun c => H1 ⟨c.1, c.2.resolve_right fun q => ?_⟩, fun c => H2 fun q => c ⟨q.1, .inl q.2⟩⟩
      have := c.1
      omega

end Cert.TwoTier

end
-- ==== Proof.PointValues.lean ====
/- One grid point of the kernel, read over the arguments: what its blocks add to the two tiers' row totals and which
   vocabulary entries its running target entries meet. -/
module

public import proofs.«01_k».proof.Proof.StepValues

@[expose] public section

noncomputable section

namespace Cert.TwoTier

open Idealize.ShloMosaic Cert.KernelIdeal Cert.KernelIdeal.Gen

/-- What a head block of the vocabulary holds: the weights and the scales of the 256 entries from `256 t` on. -/
structure HeadBlock (x1 : Vec Ideal S256x2304 .fp8e4m3) (x2 : Vec Ideal S1x256 .f32) (A : Args) (t : ℕ) (ht : t < 64) : Prop where
  /-- the weights -/
  weights : ∀ (v : Fin 256) (k : Fin 2304), x1 (ix2 v k) = A.wh ⟨256 * t + v.val, by omega⟩ k
  /-- the scales -/
  scales : ∀ v : Fin 256, x2 (ix2 0 v) = A.sh ⟨256 * t + v.val, by omega⟩

variable {x0 : Vec Ideal S128x2304 .bf16} {x1 : Vec Ideal S256x2304 .fp8e4m3} {x2 : Vec Ideal S1x256 .f32}
  {x3 : Vec Ideal S1792x1152 .i8} {x4 : Vec Ideal S18x1792 .bf16} {A : Args} {t : ℕ} {ht : t < 64}

/-- A head block's capped logits over the cap are the head tier's. -/
theorem headT_eq (hx : ∀ r k, x0 (ix2 r k) = A.x r k) (H : HeadBlock x1 x2 A t ht) (r : Fin 128) (l : Fin 256) :
    k0_pay15 x0 x1 x2 (ix2 r l) = ((A.headT r ⟨256 * t + l.val, by omega⟩ : ℝ) : EReal) := by
  have hk : Named.named (F := Ideal) κ "inv_softcap" (φ := .f32) 0x3D088889#32 = ((1 / 30 : ℝ) : EReal) :=
    IdealRules.named_const.ideal_named_scalar _ _ _ _ rfl
  have e : k0_pay15 x0 x1 x2 (ix2 r l) = Ideal.tanh ((∑ k : Fin 2304, x0 (ix2 r k) * x1 (ix2 l k))
      * (x2 (ix2 0 l) * Named.named (F := Ideal) κ "inv_softcap" (φ := .f32) 0x3D088889#32)) := by
    unfold k0_pay15 k0_pay14
    pointwise
  rw [e, hk, H.scales, Finset.sum_congr rfl fun k _ => by rw [hx, H.weights]]
  exact tanh_eq_cap _

/-- The head block adds its 256 exponentials to a row's total. -/
theorem rowTotal_head (hx : ∀ r k, x0 (ix2 r k) = A.x r k) (H : HeadBlock x1 x2 A t ht) (s : Vec Ideal S128x128 .f32) (r : Fin 128) :
    rowTotal (sumStep (k0_pay15 x0 x1 x2) s) r
      = rowTotal s r + ((∑ l : Fin 256, Real.exp (30 * A.headT r ⟨256 * t + l.val, by omega⟩) : ℝ) : EReal) :=
  rowTotal_sumStep _ _ _ (fun l => A.headT r ⟨256 * t + l.val, by omega⟩) fun l => headT_eq hx H r l

/-- The tail block's first `n` chunks add their exponentials to a row's total. -/
theorem rowTotal_chunks (hx : ∀ r k, x0 (ix2 r k) = A.x r k) (H : TailBlock x3 x4 A t ht) (s : Vec Ideal S128x128 .f32) (r : Fin 128)
    (n : ℕ) (hn : n ≤ 7) : rowTotal (tailSums x0 x3 x4 s n hn) r
      = rowTotal s r + ((∑ c : Fin n, ∑ l : Fin 256,
          Real.exp (30 * A.tailT r ⟨1792 * t + (256 * c.val + l.val), by omega⟩) : ℝ) : EReal) := by
  induction n with
  | zero => simp [tailSums]
  | succ n ih =>
    unfold tailSums
    rw [rowTotal_sumStep _ _ _ (fun l => A.tailT r ⟨1792 * t + (256 * n + l.val), by omega⟩) fun l => chunkT_eq hx H n hn r l,
      ih (Nat.le_of_succ_le hn), add_assoc, ← EReal.coe_add,
      Fin.sum_univ_castSucc (fun c : Fin (n + 1) => ∑ l : Fin 256, Real.exp (30 * A.tailT r ⟨1792 * t + (256 * c.val + l.val), by omega⟩))]
    rfl

/-- The tail block adds its 1792 exponentials to a row's total. -/
theorem rowTotal_tail (hx : ∀ r k, x0 (ix2 r k) = A.x r k) (H : TailBlock x3 x4 A t ht) (s : Vec Ideal S128x128 .f32) (r : Fin 128) :
    rowTotal (tailSums x0 x3 x4 s 7 le_rfl) r
      = rowTotal s r + ((∑ v : Fin 1792, Real.exp (30 * A.tailT r ⟨1792 * t + v.val, by omega⟩) : ℝ) : EReal) := by
  rw [rowTotal_chunks hx H, sum_runs (a := 7) (b := 256) rfl (fun v : Fin 1792 => Real.exp (30 * A.tailT r ⟨1792 * t + v.val, by omega⟩))]

/-- The vocabulary's entry `n` of the head tier. -/
theorem vocabT_head (A : Args) (r : Fin 128) {n : ℕ} (h : n < 16384) : A.vocabT r n = A.headT r ⟨n, h⟩ := by
  unfold Args.vocabT
  rw [dif_pos h]

/-- The vocabulary's entry `16384 + n`: entry `n` of the tail tier. -/
theorem vocabT_tail (A : Args) (r : Fin 128) {n : ℕ} (h : n < 114688) : A.vocabT r (16384 + n) = A.tailT r ⟨n, h⟩ := by
  unfold Args.vocabT
  rw [dif_neg (by omega), dif_pos (by omega)]
  exact congrArg (A.tailT r) (Fin.ext (by show 16384 + n - 16384 = n; omega))

/-- What one row of the running target entries has met after the first `n` blocks of each tier and `c` chunks of the next tail block. -/
def met (n m c : ℕ) (w : ℕ) : Prop := w < 256 * n ∨ 16384 ≤ w ∧ w < 16384 + 1792 * m + 256 * c

/-- The head block's step meets its 256 entries. -/
theorem RowHit.head (hx : ∀ r k, x0 (ix2 r k) = A.x r k) (H : HeadBlock x1 x2 A t ht) {r : Fin 128} {h : Vec Ideal S128x128 .f32}
    (hh : RowHit A r (met t t 0 (A.tgt r).toNat) h) (i : grid0.Coords) (hi : (i 0).val = t) (tgt : IVec S128x128 32)
    (htgt : ∀ l, tgt (ix2 r l) = A.tgt r) (hr : (A.tgt r).toNat < 131072) :
    RowHit A r (met (t + 1) t 0 (A.tgt r).toNat) (hitStep (headBase i) tgt (k0_pay15 x0 x1 x2) h) := by
  have hb : (headBase i).toNat = 256 * t := by
    show (BitVec.ofNat 32 (i 0).val * 256#32).toNat = _
    rw [hi, BitVec.toNat_mul, BitVec.toNat_ofNat, BitVec.toNat_ofNat]
    omega
  have := hh.step (headBase i) (256 * t) hb (by omega) (by omega) tgt htgt hr (k0_pay15 x0 x1 x2) fun x => by
    rw [headT_eq hx H, vocabT_head A r (n := 256 * t + x.val) (by omega)]
  refine (show (met t t 0 (A.tgt r).toNat ∨ _) = met (t + 1) t 0 (A.tgt r).toNat from propext ?_) ▸ this
  unfold met
  omega

/-- The tail block's first `n` chunks meet their entries. -/
theorem RowHit.chunks (hx : ∀ r k, x0 (ix2 r k) = A.x r k) (H : TailBlock x3 x4 A t ht) {r : Fin 128} {h : Vec Ideal S128x128 .f32}
    (hh : RowHit A r (met (t + 1) t 0 (A.tgt r).toNat) h) (i : grid0.Coords) (hi : (i 0).val = t) (tgt : Vec Ideal S128x128 .i32)
    (htgt : ∀ l, tgt (ix2 r l) = A.tgt r) (hr : (A.tgt r).toNat < 131072) (n : ℕ) (hn : n ≤ 7) :
    RowHit A r (met (t + 1) t n (A.tgt r).toNat) (tailHits i x0 x3 x4 tgt h n hn) := by
  induction n with
  | zero => exact hh
  | succ n ih =>
    have hb : (chunkBase i n).toNat = 16384 + (1792 * t + 256 * n) := by
      show (16384#32 + BitVec.ofNat 32 (i 0).val * 1792#32 + BitVec.ofNat 32 (256 * n)).toNat = _
      rw [hi, BitVec.toNat_add, BitVec.toNat_add, BitVec.toNat_mul, BitVec.toNat_ofNat, BitVec.toNat_ofNat, BitVec.toNat_ofNat, BitVec.toNat_ofNat]
      omega
    have := (ih (Nat.le_of_succ_le hn)).step (chunkBase i n) _ hb (by omega) (by omega) tgt htgt hr (chunkT x0 x3 x4 n hn) fun x => by
      rw [chunkT_eq hx H, show 16384 + (1792 * t + 256 * n) + x.val = 16384 + (1792 * t + (256 * n + x.val)) by omega,
        vocabT_tail A r (by omega)]
    refine (show (met (t + 1) t n (A.tgt r).toNat ∨ _) = met (t + 1) t (n + 1) (A.tgt r).toNat from propext ?_) ▸ this
    unfold met
    omega

/-- The tail block's steps meet its 1792 entries. -/
theorem RowHit.tail (hx : ∀ r k, x0 (ix2 r k) = A.x r k) (H : TailBlock x3 x4 A t ht) {r : Fin 128} {h : Vec Ideal S128x128 .f32}
    (hh : RowHit A r (met (t + 1) t 0 (A.tgt r).toNat) h) (i : grid0.Coords) (hi : (i 0).val = t) (tgt : Vec Ideal S128x128 .i32)
    (htgt : ∀ l, tgt (ix2 r l) = A.tgt r) (hr : (A.tgt r).toNat < 131072) :
    RowHit A r (met (t + 1) (t + 1) 0 (A.tgt r).toNat) (tailHits i x0 x3 x4 tgt h 7 le_rfl) := by
  have := hh.chunks hx H i hi tgt htgt hr 7 le_rfl
  refine (show met (t + 1) t 7 (A.tgt r).toNat = met (t + 1) (t + 1) 0 (A.tgt r).toNat from propext ?_) ▸ this
  unfold met
  omega

end Cert.TwoTier

end
-- ==== Proof.Arguments.lean ====
/- The argument arrays both programs take, gathered into the mathematics' arguments, and the block of each operand that
   a grid point of the kernel stages, read over them. -/
module

public import proofs.«01_k».proof.Proof.PointValues
public import proofs.«01_k».proof.Proof.Gen.KernelIdeal.Value
public import Idealize.ShloMosaic.Lib.Claim
public import Idealize.ShloMosaic.Lib.ValueLayout
public import Idealize.ShloMosaic.Lib.Pipeline.ValueKit.Point

@[expose] public section

noncomputable section

namespace Cert.TwoTier

open Idealize.ShloMosaic Idealize.ShloMosaic.TcCoe Idealize.SL.Sem Cert.KernelIdeal Cert.KernelIdeal.Gen

/-- The mathematics' arguments of the six argument arrays. -/
def argsOf (a0 : Vec Ideal S1x128x2304 .bf16) (a1 : Vec Ideal S16384x2304 .fp8e4m3) (a2 : Vec Ideal S16384 .f32)
    (a3 : Vec Ideal S114688x1152 .i8) (a4 : Vec Ideal S114688x18 .bf16) (a5 : Vec Ideal S1x128 .i32) : Args where
  x r k := a0 (ix3 0 r k)
  wh v k := a1 (ix2 v k)
  sh v := a2 (ix1 v)
  codes v j := a3 (ix2 v j)
  st v g := a4 (ix2 v g)
  tgt r := a5 (ix2 0 r)

variable (m : (ℓ : Loc nD τ sig) → Buf (Elt Ideal) ℓ) (c : Dev nD)

/-- The kernel's arguments on a device. -/
abbrev kArgs : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The block index of each operand at a grid point. -/
theorem block_index : ∀ t : Fin cfg0.N, win0_0.index t = ![0, 0] ∧ win0_1.index t = ![t.val, 0] ∧ win0_2.index t = ![0, t.val]
    ∧ win0_3.index t = ![t.val, 0] ∧ win0_4.index t = ![0, t.val] ∧ win0_5.index t = ![0, 0] := by
  decide +kernel

/-- The grid coordinate of point `t` is `t`. -/
theorem coord_val : ∀ t : Fin cfg0.N, ((grid0.coords t) 0).val = t.val := by
  decide +kernel

theorem point_lt (t : Fin cfg0.N) : t.val < 64 := lt_of_lt_of_eq t.isLt (show cfg0.N = 64 from N_0)

/-- The activations' block is the whole array. -/
theorem block_x (t : Fin cfg0.N) (r : Fin 128) (k : Fin 2304) :
    (iblk m c 0 t : Vec Ideal S128x2304 .bf16) (ix2 r k) = (kArgs m c).x r k := by
  show _ = m ((c : Thread nD τ).loc main_arg0) (ix3 0 r k)
  unfold iblk
  entry_read
  refine Eq.trans (b := (shapeCast S128x2304 (m ((c : Thread nD τ).loc main_arg0)) shapeCasts_S1x128x2304_S128x2304 : Vec Ideal S128x2304 .bf16) (ix2 r k)) ?_ (Idealize.ShloMosaic.ValueIdx.shapeCast_1ab_ab_apply ..)
  blk_ext [block_index t]

/-- The head tier's blocks. -/
theorem block_head (t : Fin cfg0.N) : HeadBlock (iblk m c 1 t) (iblk m c 2 t) (kArgs m c) t.val (point_lt t) where
  weights v k := by
    show _ = m ((c : Thread nD τ).loc main_arg1) (ix2 _ k)
    blk_ext [iblk, V, block_index t]
  scales v := by
    show _ = m ((c : Thread nD τ).loc main_arg2) (ix1 _)
    unfold iblk
    entry_read
    refine Eq.trans (b := (shapeCast S1x16384 (m ((c : Thread nD τ).loc main_arg2)) shapeCasts_S16384_S1x16384 : Vec Ideal S1x16384 .f32) (ix2 0 ⟨256 * t.val + v.val, by have := point_lt t; omega⟩)) ?_ (Idealize.ShloMosaic.ValueIdx.shapeCast_a_1a_apply ..)
    blk_ext [block_index t]

/-- The tail tier's blocks. -/
theorem block_tail (t : Fin cfg0.N) : TailBlock (iblk m c 3 t) (iblk m c 4 t) (kArgs m c) t.val (point_lt t) where
  codes v j := by
    show _ = m ((c : Thread nD τ).loc main_arg3) (ix2 _ j)
    blk_ext [iblk, V, block_index t]
  scales g v := by
    show _ = m ((c : Thread nD τ).loc main_arg4) (ix2 _ g)
    unfold iblk
    entry_read
    refine Eq.trans (b := (transpose S18x114688 [1, 0] (m ((c : Thread nD τ).loc main_arg4)) transposes_S114688x18_S18x114688_1_0 : Vec Ideal S18x114688 .bf16) (ix2 g ⟨1792 * t.val + v.val, by have := point_lt t; omega⟩)) ?_ (by pointwise)
    blk_ext [block_index t]

/-- The targets' block is the whole array. -/
theorem block_tgt (t : Fin cfg0.N) (r : Fin 128) :
    (iblk m c 5 t : Vec Ideal S1x128 .i32) (ix2 0 r) = (kArgs m c).tgt r := by
  show _ = m ((c : Thread nD τ).loc main_arg5) (ix2 0 r)
  blk_ext [iblk, V, block_index t]

end Cert.TwoTier

end
-- ==== Proof.Consts.lean ====
/- The float constants the two programs spell, as the extended reals they denote over the ideal values. -/
module

public import Idealize.ShloMosaic.PureOps.Ideal

@[expose] public section

noncomputable section

namespace Cert.TwoTier

open Idealize.ShloMosaic

/-- The soft cap `30.0` denotes the real `30`. -/
theorem lit_thirty : Ideal.ofBits .f32 0x41F00000#32 = ((30 : ℝ) : EReal) := by
  simp [Ideal.ofBits, Ideal.ieee, -EReal.coe_mul]; norm_num

/-- `0.0` denotes zero. -/
theorem lit_zero : Ideal.ofBits .f32 0x00000000#32 = (0 : EReal) := by
  simp [Ideal.ofBits, Ideal.ieee, -EReal.coe_mul]

/-- `+inf` denotes the top of the extended reals. -/
theorem lit_top : Ideal.ofBits .f32 0x7F800000#32 = (⊤ : EReal) := by
  simp [Ideal.ofBits, Ideal.ieee, -EReal.coe_mul]

/-- `-inf` denotes the bottom of the extended reals. -/
theorem lit_bot : Ideal.ofBits .f32 0xFF800000#32 = (⊥ : EReal) := by
  simp [Ideal.ofBits, Ideal.ieee, -EReal.coe_mul]

end Cert.TwoTier

end
-- ==== Proof.Words.lean ====
/- The tests and bounds of a 32-bit word both programs make, read as integers. -/
module

public import Idealize.ShloMosaic.PureOps.Float

@[expose] public section

namespace Cert.TwoTier

open Idealize.ShloMosaic

/-- The test `w ≥ 0` holds. -/
theorem sge_zero_of (w : BitVec 32) (h : 0 ≤ w.toInt) : IntOp.cmpi .sge w 0#32 = 1#1 := by
  show BitVec.ofBool (decide ((0#32).toInt ≤ w.toInt)) = 1#1
  rw [decide_eq_true (by simpa using h)]
  rfl

/-- The test `w ≥ 0` fails. -/
theorem sge_zero_not (w : BitVec 32) (h : ¬ 0 ≤ w.toInt) : IntOp.cmpi .sge w 0#32 = 0#1 := by
  show BitVec.ofBool (decide ((0#32).toInt ≤ w.toInt)) = 0#1
  rw [decide_eq_false (by simpa using h)]
  rfl

/-- The test `w ≤ b` holds. -/
theorem sle_of (w b : BitVec 32) (h : w.toInt ≤ b.toInt) : IntOp.cmpi .sle w b = 1#1 := by
  show BitVec.ofBool (decide (w.toInt ≤ b.toInt)) = 1#1
  rw [decide_eq_true h]
  rfl

/-- The test `w < b` holds. -/
theorem slt_of (w b : BitVec 32) (h : w.toInt < b.toInt) : IntOp.cmpi .slt w b = 1#1 := by
  show BitVec.ofBool (decide (w.toInt < b.toInt)) = 1#1
  rw [decide_eq_true h]
  rfl

/-- The test `w < b` fails. -/
theorem slt_not (w b : BitVec 32) (h : ¬ w.toInt < b.toInt) : IntOp.cmpi .slt w b = 0#1 := by
  show BitVec.ofBool (decide (w.toInt < b.toInt)) = 0#1
  rw [decide_eq_false h]
  rfl

/-- A test `w < b` that came out true says so of the integers. -/
theorem lt_of_slt (w b : BitVec 32) (h : IntOp.cmpi .slt w b = 1#1) : w.toInt < b.toInt := by
  by_contra hn
  rw [slt_not w b hn] at h
  exact absurd h (by decide)

/-- A word kept between zero and a bound. -/
theorem clip_toInt (w b : BitVec 32) : (IntOp.minsi b (IntOp.maxsi 0#32 w)).toInt = min b.toInt (max 0 w.toInt) := by
  have hmax : (IntOp.maxsi 0#32 w).toInt = max 0 w.toInt := by
    show (if _ then _ else _ : BitVec 32).toInt = _
    split <;> simp_all [BitVec.slt, BitVec.sle] <;> omega
  rw [← hmax]
  generalize IntOp.maxsi 0#32 w = x
  show (if _ then _ else _ : BitVec 32).toInt = _
  split <;> simp_all [BitVec.slt, BitVec.sle] <;> omega

/-- A word already between zero and the bound is kept as it is. -/
theorem clip_of (w b : BitVec 32) (h0 : 0 ≤ w.toInt) (h1 : w.toInt ≤ b.toInt) : IntOp.minsi b (IntOp.maxsi 0#32 w) = w := by
  apply BitVec.eq_of_toInt_eq
  rw [clip_toInt, max_eq_right h0, min_eq_right h1]

end Cert.TwoTier
-- ==== Proof.Held.lean ====
/- What the kernel's four running buffers hold after some grid points: the targets, the two tiers' row totals so far and
   the target entries met so far; kept by a grid point's steps, and what the last point makes of it. -/
module

public import proofs.«01_k».proof.Proof.PointValues
public import proofs.«01_k».proof.Proof.Consts
public import proofs.«01_k».proof.Proof.Words

@[expose] public section

noncomputable section

namespace Cert.TwoTier

open Idealize.ShloMosaic Cert.KernelIdeal Cert.KernelIdeal.Gen

/-- The exponential of entry `n` of the head tier, zero past its end. -/
def Args.headExp (A : Args) (r : Fin 128) (n : ℕ) : ℝ := if h : n < 16384 then Real.exp (30 * A.headT r ⟨n, h⟩) else 0

/-- The exponential of entry `n` of the tail tier, zero past its end. -/
def Args.tailExp (A : Args) (r : Fin 128) (n : ℕ) : ℝ := if h : n < 114688 then Real.exp (30 * A.tailT r ⟨n, h⟩) else 0

/-- The head tier's exponentials sum to its total. -/
theorem headSum_range (A : Args) (r : Fin 128) : ∑ n ∈ Finset.range (256 * 64), A.headExp r n = A.headSum r := by
  rw [show 256 * 64 = 16384 from rfl, Finset.sum_range]
  exact Finset.sum_congr rfl fun v _ => dif_pos v.isLt

/-- The tail tier's exponentials sum to its total. -/
theorem tailSum_range (A : Args) (r : Fin 128) : ∑ n ∈ Finset.range (1792 * 64), A.tailExp r n = A.tailSum r := by
  rw [show 1792 * 64 = 114688 from rfl, Finset.sum_range]
  exact Finset.sum_congr rfl fun v _ => dif_pos v.isLt

/-- What the running buffers hold after `n` grid points. -/
structure Held (A : Args) (n : ℕ) (tgt : Vec Ideal S128x128 .i32) (sh st hit : Vec Ideal S128x128 .f32) : Prop where
  /-- each row holds its token's target in every lane -/
  target : ∀ r l, tgt (ix2 r l) = A.tgt r
  /-- the head tier's row totals -/
  head : ∀ r, rowTotal sh r = ((∑ v ∈ Finset.range (256 * n), A.headExp r v : ℝ) : EReal)
  /-- the tail tier's row totals -/
  tail : ∀ r, rowTotal st r = ((∑ v ∈ Finset.range (1792 * n), A.tailExp r v : ℝ) : EReal)
  /-- the target entries -/
  hits : ∀ r, (A.tgt r).toNat < 131072 → RowHit A r (met n n 0 (A.tgt r).toNat) hit

/-- Before the first grid point: the targets broadcast along the lanes, and zeros. -/
theorem Held.start (A : Args) (x5 : Vec Ideal S1x128 .i32) (h5 : ∀ r, x5 (ix2 0 r) = A.tgt r) :
    Held A 0 (k0_pay10 x5) (k0_pay11 (F := Ideal)) (k0_pay12 (F := Ideal)) (k0_pay13 (F := Ideal)) where
  target r l := by
    rw [← h5]
    unfold k0_pay10
    pointwise
  head r := by
    have e : ∀ l, k0_pay11 (F := Ideal) (ix2 r l) = 0 := fun l => by
      refine Eq.trans (b := Ideal.ofBits .f32 0x00000000#32) ?_ lit_zero
      unfold k0_pay11
      pointwise
    unfold rowTotal
    rw [Finset.sum_congr rfl fun l _ => e l]
    simp
  tail r := by
    have e : ∀ l, k0_pay12 (F := Ideal) (ix2 r l) = 0 := fun l => by
      refine Eq.trans (b := Ideal.ofBits .f32 0x00000000#32) ?_ lit_zero
      unfold k0_pay12
      pointwise
    unfold rowTotal
    rw [Finset.sum_congr rfl fun l _ => e l]
    simp
  hits r _ l := by
    refine ⟨fun h => ?_, fun _ => ?_⟩
    · have := h.2
      unfold met at this
      omega
    · refine Eq.trans (b := Ideal.ofBits .f32 0x00000000#32) ?_ lit_zero
      unfold k0_pay13
      pointwise

variable {x0 : Vec Ideal S128x2304 .bf16} {x1 : Vec Ideal S256x2304 .fp8e4m3} {x2 : Vec Ideal S1x256 .f32}
  {x3 : Vec Ideal S1792x1152 .i8} {x4 : Vec Ideal S18x1792 .bf16} {A : Args} {t : ℕ} {ht : t < 64}

/-- A grid point's steps take what `t` points leave to what `t + 1` points leave. -/
theorem Held.point {tgt : Vec Ideal S128x128 .i32} {sh st hit : Vec Ideal S128x128 .f32} (H : Held A t tgt sh st hit)
    (hx : ∀ r k, x0 (ix2 r k) = A.x r k) (HH : HeadBlock x1 x2 A t ht) (HT : TailBlock x3 x4 A t ht)
    (i : grid0.Coords) (hi : (i 0).val = t) :
    Held A (t + 1) tgt (sumStep (k0_pay15 x0 x1 x2) sh) (tailSums x0 x3 x4 st 7 le_rfl)
      (tailHits i x0 x3 x4 tgt (hitStep (headBase i) tgt (k0_pay15 x0 x1 x2) hit) 7 le_rfl) where
  target := H.target
  head r := by
    rw [rowTotal_head hx HH, H.head, ← EReal.coe_add, Nat.mul_succ, Finset.sum_range_add, Finset.sum_range (n := 256)]
    congr 2
    refine Finset.sum_congr rfl fun l _ => ?_
    unfold Args.headExp
    rw [dif_pos]
  tail r := by
    rw [rowTotal_tail hx HT, H.tail, ← EReal.coe_add, Nat.mul_succ, Finset.sum_range_add, Finset.sum_range (n := 1792)]
    congr 2
    refine Finset.sum_congr rfl fun l _ => ?_
    unfold Args.tailExp
    rw [dif_pos]
  hits r hr := ((H.hits r hr).head hx HH i hi tgt (H.target r) hr).tail hx HT i hi tgt (H.target r) hr

variable {tgt : Vec Ideal S128x128 .i32} {sh st hit : Vec Ideal S128x128 .f32}

/-- After the whole grid a row's total is the head tier's. -/
theorem Held.headTotal (H : Held A 64 tgt sh st hit) (r : Fin 128) : (∑ l, (sh (ix2 r l) : EReal)) = ((A.headSum r : ℝ) : EReal) :=
  (H.head r).trans (by rw [headSum_range])

/-- After the whole grid a row's total is the tail tier's. -/
theorem Held.tailTotal (H : Held A 64 tgt sh st hit) (r : Fin 128) : (∑ l, (st (ix2 r l) : EReal)) = ((A.tailSum r : ℝ) : EReal) :=
  (H.tail r).trans (by rw [tailSum_range])

/-- After the whole grid a row of target entries sums to the target's entry of the vocabulary. -/
theorem Held.hitTotal (H : Held A 64 tgt sh st hit) (r : Fin 128) (hr : (A.tgt r).toNat < 131072) :
    (∑ l, (hit (ix2 r l) : EReal)) = ((A.vocabT r (A.tgt r).toNat : ℝ) : EReal) := by
  have hm : met 64 64 0 (A.tgt r).toNat := by
    unfold met
    omega
  have h := H.hits r hr
  rw [Finset.sum_eq_single (⟨(A.tgt r).toNat % 128, Nat.mod_lt _ (by omega)⟩ : Fin 128)]
  · exact (h _).1 ⟨rfl, hm⟩
  · intro l _ hl
    exact (h l).2 fun e => hl (Fin.ext e.1.symm)
  · exact fun e => absurd (Finset.mem_univ _) e

/-- The logarithm of both tiers' sum. -/
theorem Held.lse (H : Held A 64 tgt sh st hit) (s : Fin 128) : k0_pay6 sh st (ix2 0 s) = ((A.lse s : ℝ) : EReal) := by
  have e : k0_pay6 sh st (ix2 0 s) = Ideal.log ((∑ l, (sh (ix2 s l) : EReal)) + ∑ l, (st (ix2 s l) : EReal)) := by
    unfold k0_pay6 k0_pay4 k0_pay5
    pointwise
  rw [e, H.headTotal, H.tailTotal, ← EReal.coe_add]
  exact log_pos_coe (add_pos (A.headSum_pos s) (A.tailSum_pos s))

/-- The logarithm of the head tier's sum. -/
theorem Held.lseHead (H : Held A 64 tgt sh st hit) (s : Fin 128) : k0_pay7 sh (ix2 0 s) = ((A.lseHead s : ℝ) : EReal) := by
  have e : k0_pay7 sh (ix2 0 s) = Ideal.log (∑ l, (sh (ix2 s l) : EReal)) := by
    unfold k0_pay7 k0_pay4
    pointwise
  rw [e, H.headTotal]
  exact log_pos_coe (A.headSum_pos s)

/-- The logarithm of the tail tier's sum. -/
theorem Held.lseTail (H : Held A 64 tgt sh st hit) (s : Fin 128) : k0_pay8 st (ix2 0 s) = ((A.lseTail s : ℝ) : EReal) := by
  have e : k0_pay8 st (ix2 0 s) = Ideal.log (∑ l, (st (ix2 s l) : EReal)) := by
    unfold k0_pay8 k0_pay5
    pointwise
  rw [e, H.tailTotal]
  exact log_pos_coe (A.tailSum_pos s)

/-- The target's log-probability, for a target inside the vocabulary or negative. -/
theorem Held.logprob (H : Held A 64 tgt sh st hit) (s : Fin 128) (x5 : Vec Ideal S1x128 .i32) (h5 : x5 (ix2 0 s) = A.tgt s)
    (hv : (A.tgt s).toInt < 131072) : k0_pay9 sh st hit x5 (ix2 0 s) = ((A.logprob s : ℝ) : EReal) := by
  have e : k0_pay9 sh st hit x5 (ix2 0 s) = Scalar.select (IntOp.cmpi .sge (x5 (ix2 0 s)) 0#32)
      (Ideal.ofBits .f32 0x41F00000#32 * (∑ l, (hit (ix2 s l) : EReal)) - k0_pay6 sh st (ix2 0 s)) (Ideal.ofBits .f32 0x00000000#32) := by
    unfold k0_pay9 k0_pay6
    pointwise
  rw [e, h5, H.lse]
  unfold Args.logprob
  by_cases h0 : 0 ≤ (A.tgt s).toInt
  · have hr : (A.tgt s).toNat < 131072 := by
      rw [BitVec.toInt_eq_toNat_cond] at hv h0
      split at hv <;> omega
    rw [if_pos h0, H.hitTotal s hr, lit_thirty]
    rw [sge_zero_of _ h0, ← EReal.coe_mul, ← EReal.coe_sub]
    rfl
  · rw [if_neg h0, sge_zero_not _ h0, lit_zero]
    rfl

end Cert.TwoTier

end
-- ==== Proof.Stores.lean ====
/- A load of a whole buffer after several stores of the whole buffer reads the last one. -/
module

public import Idealize.ShloMosaic.Lib.Pipeline.Value

@[expose] public section

namespace Cert.TwoTier

open Idealize.ShloMosaic

variable {Val : EltTy → Type} {S : Shape} {e : EltTy}

/-- A load of a whole buffer from stores of which the last covered the whole buffer reads that store's payload. -/
theorem readCov_cons_whole [∀ e, Nonempty (Val e)] {sig : RefSig} {κ : Kind} {sp : Space} (v : View sig κ sp S e) {off : Fin S.rank → Nat}
    (inb : ∀ a, off a + S.size a ≤ S.size a) (w : S.Idx → Val e) (L : List (View.Piece Val S e)) (h : ∀ a, off a = 0) :
    v.readCov ((⟨Rect.unit off (no_index S.size) inb, w⟩ : View.Piece Val S e) :: L) (Rect.unit off (no_index S.size) inb).toLoadRect = w := by
  obtain rfl : off = fun _ => 0 := funext h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.TwoTier
-- ==== Proof.CaseB.lean ====
/- What a middle grid point of the kernel leaves in the three running buffers, as the functions of `Blocks`. -/
module

public import proofs.«01_k».proof.Proof.Gen.KernelIdeal.Frame
public import proofs.«01_k».proof.Proof.Blocks
public import proofs.«01_k».proof.Proof.Stores
public import Idealize.ShloMosaic.Lib.Tactic
public import Idealize.ShloMosaic.Lib.Pipeline.ValueKit.Tiles

@[expose] public section

set_option maxRecDepth 16384

noncomputable section

namespace Cert.TwoTier

open Cert.KernelIdeal Cert.KernelIdeal.Gen Idealize.ShloMosaic Idealize.ShloMosaic.TcCoe Idealize.SL.Sem Idealize.ShloMosaic.Tactic

theorem hz : (![0, 0] : Fin 2 → Nat) = fun _ => 0 := funext fun a => by fin_cases a <;> rfl

variable (c : Dev nD) (i : grid0.Coords) (arg1 : Memref sig .tc .vmem S128x2304 .bf16) (harg1 : arg1.IsWhole)
  (arg2 : Memref sig .tc .vmem S256x2304 .fp8e4m3) (harg2 : arg2.IsWhole) (arg3 : Memref sig .tc .vmem S1x256 .f32) (harg3 : arg3.IsWhole)
  (arg4 : Memref sig .tc .vmem S1792x1152 .i8) (harg4 : arg4.IsWhole) (arg5 : Memref sig .tc .vmem S18x1792 .bf16) (harg5 : arg5.IsWhole)
  (arg6 : Memref sig .tc .vmem S1x128 .i32) (harg6 : arg6.IsWhole) (arg7 : Memref sig .tc .vmem S1x128 .f32) (harg7 : arg7.IsWhole)
  (arg8 : Memref sig .tc .vmem S1x128 .f32) (harg8 : arg8.IsWhole) (arg9 : Memref sig .tc .vmem S1x128 .f32) (harg9 : arg9.IsWhole)
  (arg10 : Memref sig .tc .vmem S1x128 .f32) (harg10 : arg10.IsWhole) (arg11 : Memref sig .tc .vmem S128x128 .i32) (harg11 : arg11.IsWhole)
  (arg12 : Memref sig .tc .vmem S128x128 .f32) (harg12 : arg12.IsWhole) (arg13 : Memref sig .tc .vmem S128x128 .f32) (harg13 : arg13.IsWhole)
  (arg14 : Memref sig .tc .vmem S128x128 .f32) (harg14 : arg14.IsWhole) (hc0 : ¬cond0_0 i) (hc1 : ¬cond0_1 i)
  (x0 : Vec Ideal S128x2304 .bf16) (x1 : Vec Ideal S256x2304 .fp8e4m3) (x2 : Vec Ideal S1x256 .f32) (x3 : Vec Ideal S1792x1152 .i8)
  (x4 : Vec Ideal S18x1792 .bf16) (x5 : Vec Ideal S1x128 .i32) (xs0 : Vec Ideal S128x128 .i32) (xs1 xs2 xs3 : Vec Ideal S128x128 .f32)

/-- A middle point leaves the head's running sum one block further. -/
theorem sout_B_1 : sout0_B_1 (F := Ideal) c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5 xs0 xs1 xs2 xs3
    = sumStep (k0_pay15 x0 x1 x2) xs1 := by
  unfold sout0_B_1
  rw [View.read_writes_eq_canon _ _ _ (scover0_B_1 c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5 xs0 xs1 xs2 xs3)]
  unfold kernelRun0_B
  dsimp only
  sl_unfold_words
  rw [View.canon_unit_zero (S := S128x128) hz]
  simp only [sumStep]
  open_payloads_core
  simp only [View.readAt_eq_ld, harg1.read_unread, harg2.read_unread, harg3.read_unread, harg12.read_unread, View.ld_unit_zero (S := S128x2304) hz,
    View.ld_unit_zero (S := S256x2304) hz, View.ld_unit_zero (S := S1x256) hz, View.ld_unit_zero (S := S128x128) hz,
    broadcastRows_fold, codeRows_fold, scaledRows_fold]

/-- A middle point leaves the tail's running sum one block further. -/
theorem sout_B_2 : sout0_B_2 (F := Ideal) c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5 xs0 xs1 xs2 xs3
    = tailSums x0 x3 x4 xs2 7 le_rfl := by
  unfold sout0_B_2
  rw [View.read_writes_eq_canon _ _ _ (scover0_B_2 c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5 xs0 xs1 xs2 xs3)]
  unfold kernelRun0_B
  dsimp only
  sl_unfold_words
  rw [View.canon_cons_unit_zero (S := S128x128) hz]
  simp (disch := decide) only [readCov_cons_whole, tailSums, sumStep, chunkT, chunkAcc]
  open_payloads_core
  simp only [View.readAt_eq_ld, harg1.read_unread, harg4.read_unread, harg5.read_unread, harg13.read_unread, View.ld_unit_zero (S := S128x2304) hz,
    View.ld_unit_zero (S := S256x2304) hz, View.ld_unit_zero (S := S1x256) hz, View.ld_unit_zero (S := S128x128) hz,
    broadcastRows_fold, codeRows_fold, scaledRows_fold]
  rfl

/-- A middle point leaves the running target entries one block of each tier further. -/
theorem sout_B_3 : sout0_B_3 (F := Ideal) c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5 xs0 xs1 xs2 xs3
    = tailHits i x0 x3 x4 xs0 (hitStep (headBase i) xs0 (k0_pay15 x0 x1 x2) xs3) 7 le_rfl := by
  unfold sout0_B_3
  rw [View.read_writes_eq_canon _ _ _ (scover0_B_3 c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5 xs0 xs1 xs2 xs3)]
  unfold kernelRun0_B
  dsimp only
  sl_unfold_words
  rw [View.canon_cons_unit_zero (S := S128x128) hz]
  simp (disch := decide) only [readCov_cons_whole, tailHits, hitStep, chunkT, chunkAcc]
  open_payloads_core
  simp only [View.readAt_eq_ld, harg1.read_unread, harg2.read_unread, harg3.read_unread, harg4.read_unread, harg5.read_unread, harg11.read_unread,
    harg14.read_unread, View.ld_unit_zero (S := S128x2304) hz,
    View.ld_unit_zero (S := S256x2304) hz, View.ld_unit_zero (S := S1x256) hz, View.ld_unit_zero (S := S128x128) hz,
    broadcastRows_fold, codeRows_fold, scaledRows_fold]
  rfl

end Cert.TwoTier

end
-- ==== Proof.CaseA.lean ====
/- What the first grid point of the kernel leaves in its four buffers, as the functions of `Blocks`. -/
module

public import proofs.«01_k».proof.Proof.Gen.KernelIdeal.Frame
public import proofs.«01_k».proof.Proof.CaseB
public import Idealize.ShloMosaic.Lib.Tactic
public import Idealize.ShloMosaic.Lib.Pipeline.ValueKit.Tiles

@[expose] public section

set_option maxRecDepth 16384

noncomputable section

namespace Cert.TwoTier

open Cert.KernelIdeal Cert.KernelIdeal.Gen Idealize.ShloMosaic Idealize.ShloMosaic.TcCoe Idealize.SL.Sem Idealize.ShloMosaic.Tactic

variable (c : Dev nD) (i : grid0.Coords) (arg1 : Memref sig .tc .vmem S128x2304 .bf16) (harg1 : arg1.IsWhole)
  (arg2 : Memref sig .tc .vmem S256x2304 .fp8e4m3) (harg2 : arg2.IsWhole) (arg3 : Memref sig .tc .vmem S1x256 .f32) (harg3 : arg3.IsWhole)
  (arg4 : Memref sig .tc .vmem S1792x1152 .i8) (harg4 : arg4.IsWhole) (arg5 : Memref sig .tc .vmem S18x1792 .bf16) (harg5 : arg5.IsWhole)
  (arg6 : Memref sig .tc .vmem S1x128 .i32) (harg6 : arg6.IsWhole) (arg7 : Memref sig .tc .vmem S1x128 .f32) (harg7 : arg7.IsWhole)
  (arg8 : Memref sig .tc .vmem S1x128 .f32) (harg8 : arg8.IsWhole) (arg9 : Memref sig .tc .vmem S1x128 .f32) (harg9 : arg9.IsWhole)
  (arg10 : Memref sig .tc .vmem S1x128 .f32) (harg10 : arg10.IsWhole) (arg11 : Memref sig .tc .vmem S128x128 .i32) (harg11 : arg11.IsWhole)
  (arg12 : Memref sig .tc .vmem S128x128 .f32) (harg12 : arg12.IsWhole) (arg13 : Memref sig .tc .vmem S128x128 .f32) (harg13 : arg13.IsWhole)
  (arg14 : Memref sig .tc .vmem S128x128 .f32) (harg14 : arg14.IsWhole) (hc0 : cond0_0 i) (hc1 : ¬cond0_1 i)
  (x0 : Vec Ideal S128x2304 .bf16) (x1 : Vec Ideal S256x2304 .fp8e4m3) (x2 : Vec Ideal S1x256 .f32) (x3 : Vec Ideal S1792x1152 .i8)
  (x4 : Vec Ideal S18x1792 .bf16) (x5 : Vec Ideal S1x128 .i32)

/-- The first point leaves the targets, one row per sequence, the same in every lane. -/
theorem sout_A_0 : sout0_A_0 (F := Ideal) c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5
    = k0_pay10 x5 := by
  unfold sout0_A_0
  rw [View.read_writes_eq_canon _ _ _ (scover0_A_0 c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5)]
  unfold kernelRun0_A
  dsimp only
  sl_unfold_words
  rw [View.canon_unit_zero (S := S128x128) hz]
  simp (disch := decide) only [readCov_cons_whole]
  open_payloads_core
  simp only [View.readAt_eq_ld, harg6.read_unread,
    View.ld_unit_zero (S := S128x2304) hz, View.ld_unit_zero (S := S256x2304) hz, View.ld_unit_zero (S := S1x256) hz,
    View.ld_unit_zero (S := S128x128) hz, View.ld_unit_zero (S := S1x128) hz, broadcastRows_fold, codeRows_fold, scaledRows_fold]

/-- The first point leaves the head's running sum one block from zero. -/
theorem sout_A_1 : sout0_A_1 (F := Ideal) c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5
    = sumStep (k0_pay15 x0 x1 x2) (k0_pay11 (F := Ideal)) := by
  unfold sout0_A_1
  rw [View.read_writes_eq_canon _ _ _ (scover0_A_1 c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5)]
  unfold kernelRun0_A
  dsimp only
  sl_unfold_words
  rw [View.canon_cons_unit_zero (S := S128x128) hz]
  simp (disch := decide) only [readCov_cons_whole, sumStep]
  open_payloads_core
  simp only [View.readAt_eq_ld, harg1.read_unread, harg2.read_unread, harg3.read_unread,
    View.ld_unit_zero (S := S128x2304) hz, View.ld_unit_zero (S := S256x2304) hz, View.ld_unit_zero (S := S1x256) hz,
    View.ld_unit_zero (S := S128x128) hz, View.ld_unit_zero (S := S1x128) hz, broadcastRows_fold, codeRows_fold, scaledRows_fold]

/-- The first point leaves the tail's running sum one block from zero. -/
theorem sout_A_2 : sout0_A_2 (F := Ideal) c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5
    = tailSums x0 x3 x4 (k0_pay12 (F := Ideal)) 7 le_rfl := by
  unfold sout0_A_2
  rw [View.read_writes_eq_canon _ _ _ (scover0_A_2 c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5)]
  unfold kernelRun0_A
  dsimp only
  sl_unfold_words
  rw [View.canon_cons_unit_zero (S := S128x128) hz]
  simp (disch := decide) only [readCov_cons_whole, tailSums, sumStep, chunkT, chunkAcc]
  open_payloads_core
  simp only [View.readAt_eq_ld, harg1.read_unread, harg4.read_unread, harg5.read_unread,
    View.ld_unit_zero (S := S128x2304) hz, View.ld_unit_zero (S := S256x2304) hz, View.ld_unit_zero (S := S1x256) hz,
    View.ld_unit_zero (S := S128x128) hz, View.ld_unit_zero (S := S1x128) hz, broadcastRows_fold, codeRows_fold, scaledRows_fold]
  rfl

/-- The first point leaves the running target entries one block of each tier from zero. -/
theorem sout_A_3 : sout0_A_3 (F := Ideal) c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5
    = tailHits i x0 x3 x4 (k0_pay10 x5) (hitStep (headBase i) (k0_pay10 x5) (k0_pay15 x0 x1 x2) (k0_pay13 (F := Ideal))) 7 le_rfl := by
  unfold sout0_A_3
  rw [View.read_writes_eq_canon _ _ _ (scover0_A_3 c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5)]
  unfold kernelRun0_A
  dsimp only
  sl_unfold_words
  rw [View.canon_cons_unit_zero (S := S128x128) hz]
  simp (disch := decide) only [readCov_cons_whole, tailHits, hitStep, chunkT, chunkAcc]
  open_payloads_core
  simp only [View.readAt_eq_ld, harg1.read_unread, harg2.read_unread, harg3.read_unread, harg4.read_unread, harg5.read_unread, harg6.read_unread,
    View.ld_unit_zero (S := S128x2304) hz, View.ld_unit_zero (S := S256x2304) hz, View.ld_unit_zero (S := S1x256) hz,
    View.ld_unit_zero (S := S128x128) hz, View.ld_unit_zero (S := S1x128) hz, broadcastRows_fold, codeRows_fold, scaledRows_fold]
  rfl

end Cert.TwoTier

end
-- ==== Proof.CaseC.lean ====
/- What the last grid point of the kernel leaves in the four results, as the functions of `Blocks`. -/
module

public import proofs.«01_k».proof.Proof.Gen.KernelIdeal.Frame
public import proofs.«01_k».proof.Proof.CaseB
public import Idealize.ShloMosaic.Lib.Tactic
public import Idealize.ShloMosaic.Lib.Pipeline.ValueKit.Tiles

@[expose] public section

set_option maxRecDepth 16384

noncomputable section

namespace Cert.TwoTier

open Cert.KernelIdeal Cert.KernelIdeal.Gen Idealize.ShloMosaic Idealize.ShloMosaic.TcCoe Idealize.SL.Sem Idealize.ShloMosaic.Tactic

variable (c : Dev nD) (i : grid0.Coords) (arg1 : Memref sig .tc .vmem S128x2304 .bf16) (harg1 : arg1.IsWhole)
  (arg2 : Memref sig .tc .vmem S256x2304 .fp8e4m3) (harg2 : arg2.IsWhole) (arg3 : Memref sig .tc .vmem S1x256 .f32) (harg3 : arg3.IsWhole)
  (arg4 : Memref sig .tc .vmem S1792x1152 .i8) (harg4 : arg4.IsWhole) (arg5 : Memref sig .tc .vmem S18x1792 .bf16) (harg5 : arg5.IsWhole)
  (arg6 : Memref sig .tc .vmem S1x128 .i32) (harg6 : arg6.IsWhole) (arg7 : Memref sig .tc .vmem S1x128 .f32) (harg7 : arg7.IsWhole)
  (arg8 : Memref sig .tc .vmem S1x128 .f32) (harg8 : arg8.IsWhole) (arg9 : Memref sig .tc .vmem S1x128 .f32) (harg9 : arg9.IsWhole)
  (arg10 : Memref sig .tc .vmem S1x128 .f32) (harg10 : arg10.IsWhole) (arg11 : Memref sig .tc .vmem S128x128 .i32) (harg11 : arg11.IsWhole)
  (arg12 : Memref sig .tc .vmem S128x128 .f32) (harg12 : arg12.IsWhole) (arg13 : Memref sig .tc .vmem S128x128 .f32) (harg13 : arg13.IsWhole)
  (arg14 : Memref sig .tc .vmem S128x128 .f32) (harg14 : arg14.IsWhole) (hc0 : ¬cond0_0 i) (hc1 : cond0_1 i)
  (x0 : Vec Ideal S128x2304 .bf16) (x1 : Vec Ideal S256x2304 .fp8e4m3) (x2 : Vec Ideal S1x256 .f32) (x3 : Vec Ideal S1792x1152 .i8)
  (x4 : Vec Ideal S18x1792 .bf16) (x5 : Vec Ideal S1x128 .i32) (xs0 : Vec Ideal S128x128 .i32) (xs1 xs2 xs3 : Vec Ideal S128x128 .f32)

/-- The last point's first result: the logarithm of both tiers' sums together. -/
theorem out_C_6 : out0_C_6 (F := Ideal) c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5 xs0 xs1 xs2 xs3
    = k0_pay6 (sumStep (k0_pay15 x0 x1 x2) xs1) (tailSums x0 x3 x4 xs2 7 le_rfl) := by
  unfold out0_C_6
  rw [View.read_writes_eq_canon _ _ _ (cover0_C_6 c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5 xs0 xs1 xs2 xs3)]
  unfold kernelRun0_C
  dsimp only
  sl_unfold_words
  rw [View.canon_unit_zero (S := S1x128) hz]
  simp (disch := decide) only [readCov_cons_whole, tailSums, sumStep, chunkT, chunkAcc]
  open_payloads_core
  simp only [View.readAt_eq_ld, harg1.read_unread, harg2.read_unread, harg3.read_unread, harg4.read_unread, harg5.read_unread, harg12.read_unread, harg13.read_unread,
    View.ld_unit_zero (S := S128x2304) hz, View.ld_unit_zero (S := S256x2304) hz, View.ld_unit_zero (S := S1x256) hz,
    View.ld_unit_zero (S := S128x128) hz, View.ld_unit_zero (S := S1x128) hz, broadcastRows_fold, codeRows_fold, scaledRows_fold]
  rfl

/-- The last point's second result: the targets' capped logits less that logarithm. -/
theorem out_C_7 : out0_C_7 (F := Ideal) c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5 xs0 xs1 xs2 xs3
    = k0_pay9 (sumStep (k0_pay15 x0 x1 x2) xs1) (tailSums x0 x3 x4 xs2 7 le_rfl)
      (tailHits i x0 x3 x4 xs0 (hitStep (headBase i) xs0 (k0_pay15 x0 x1 x2) xs3) 7 le_rfl) x5 := by
  unfold out0_C_7
  rw [View.read_writes_eq_canon _ _ _ (cover0_C_7 c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5 xs0 xs1 xs2 xs3)]
  unfold kernelRun0_C
  dsimp only
  sl_unfold_words
  rw [View.canon_unit_zero (S := S1x128) hz]
  simp (disch := decide) only [readCov_cons_whole, tailHits, hitStep, tailSums, sumStep, chunkT, chunkAcc]
  open_payloads_core
  simp only [View.readAt_eq_ld, harg1.read_unread, harg2.read_unread, harg3.read_unread, harg4.read_unread, harg5.read_unread, harg6.read_unread, harg11.read_unread, harg12.read_unread, harg13.read_unread, harg14.read_unread,
    View.ld_unit_zero (S := S128x2304) hz, View.ld_unit_zero (S := S256x2304) hz, View.ld_unit_zero (S := S1x256) hz,
    View.ld_unit_zero (S := S128x128) hz, View.ld_unit_zero (S := S1x128) hz, broadcastRows_fold, codeRows_fold, scaledRows_fold]
  rfl

/-- The last point's third result: the logarithm of the head's sum. -/
theorem out_C_8 : out0_C_8 (F := Ideal) c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5 xs0 xs1 xs2 xs3
    = k0_pay7 (sumStep (k0_pay15 x0 x1 x2) xs1) := by
  unfold out0_C_8
  rw [View.read_writes_eq_canon _ _ _ (cover0_C_8 c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5 xs0 xs1 xs2 xs3)]
  unfold kernelRun0_C
  dsimp only
  sl_unfold_words
  rw [View.canon_unit_zero (S := S1x128) hz]
  simp (disch := decide) only [readCov_cons_whole, sumStep]
  open_payloads_core
  simp only [View.readAt_eq_ld, harg1.read_unread, harg2.read_unread, harg3.read_unread, harg12.read_unread,
    View.ld_unit_zero (S := S128x2304) hz, View.ld_unit_zero (S := S256x2304) hz, View.ld_unit_zero (S := S1x256) hz,
    View.ld_unit_zero (S := S128x128) hz, View.ld_unit_zero (S := S1x128) hz, broadcastRows_fold, codeRows_fold, scaledRows_fold]

/-- The last point's fourth result: the logarithm of the tail's sum. -/
theorem out_C_9 : out0_C_9 (F := Ideal) c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5 xs0 xs1 xs2 xs3
    = k0_pay8 (tailSums x0 x3 x4 xs2 7 le_rfl) := by
  unfold out0_C_9
  rw [View.read_writes_eq_canon _ _ _ (cover0_C_9 c i arg1 harg1 arg2 harg2 arg3 harg3 arg4 harg4 arg5 harg5 arg6 harg6 arg7 harg7 arg8 harg8 arg9 harg9
    arg10 harg10 arg11 harg11 arg12 harg12 arg13 harg13 arg14 harg14 hc0 hc1 x0 x1 x2 x3 x4 x5 xs0 xs1 xs2 xs3)]
  unfold kernelRun0_C
  dsimp only
  sl_unfold_words
  rw [View.canon_unit_zero (S := S1x128) hz]
  simp (disch := decide) only [readCov_cons_whole, tailSums, sumStep, chunkT, chunkAcc]
  open_payloads_core
  simp only [View.readAt_eq_ld, harg1.read_unread, harg4.read_unread, harg5.read_unread, harg13.read_unread,
    View.ld_unit_zero (S := S128x2304) hz, View.ld_unit_zero (S := S256x2304) hz, View.ld_unit_zero (S := S1x256) hz,
    View.ld_unit_zero (S := S128x128) hz, View.ld_unit_zero (S := S1x128) hz, broadcastRows_fold, codeRows_fold, scaledRows_fold]
  rfl

end Cert.TwoTier

end
-- ==== Proof.Fold.lean ====
/- The kernel's grid, point by point: what its running buffers hold after each point, and the four result arrays. -/
module

public import proofs.«01_k».proof.Proof.Arguments
public import proofs.«01_k».proof.Proof.Held
public import proofs.«01_k».proof.Proof.CaseA
public import proofs.«01_k».proof.Proof.CaseC

@[expose] public section

set_option maxRecDepth 16384

noncomputable section

namespace Cert.TwoTier

open Idealize.ShloMosaic Idealize.ShloMosaic.TcCoe Idealize.SL.Sem Cert.KernelIdeal Cert.KernelIdeal.Gen Cert.KernelIdeal.Value

variable (m : (ℓ : Loc nD τ sig) → Buf (Elt Ideal) ℓ) (c : Dev nD)

/-- After point `n`, but for the last, the running buffers hold what `n + 1` points leave. -/
theorem held_after (n : ℕ) (hn : n < cfg0.N) (h63 : n < 63) :
    Held (kArgs m c) (n + 1) (outsAt0 m c n hn).2.2.2.2.1 (outsAt0 m c n hn).2.2.2.2.2.1 (outsAt0 m c n hn).2.2.2.2.2.2.1
      (outsAt0 m c n hn).2.2.2.2.2.2.2 := by
  induction n with
  | zero =>
    rw [outsAt0_zero, stAt0_A m c ⟨0, hn⟩ junk0 rfl (by show ¬ 0 % 64 = 63; decide)]
    dsimp only
    rw [sout_A_0, sout_A_1, sout_A_2, sout_A_3]
    exact (Held.start _ (iblk m c 5 ⟨0, hn⟩) (block_tgt m c ⟨0, hn⟩)).point (block_x m c ⟨0, hn⟩) (block_head m c ⟨0, hn⟩)
      (block_tail m c ⟨0, hn⟩) _ (coord_val ⟨0, hn⟩)
  | succ n ih =>
    have h0 : ¬ (n + 1) % 64 = 0 := by omega
    have h1 : ¬ (n + 1) % 64 = 63 := by omega
    rw [outsAt0_succ, stAt0_B m c ⟨n + 1, hn⟩ _ h0 h1]
    dsimp only
    rw [sout_B_1, sout_B_2, sout_B_3]
    exact (ih (Nat.lt_of_succ_lt hn) (by omega)).point (block_x m c ⟨n + 1, hn⟩) (block_head m c ⟨n + 1, hn⟩)
      (block_tail m c ⟨n + 1, hn⟩) _ (coord_val ⟨n + 1, hn⟩)

theorem last_lt : 63 < cfg0.N := lt_of_lt_of_eq (by decide) N_0.symm

/-- The last point's results are its final steps of what the whole grid leaves. -/
theorem last_point : ∃ (tgt : Vec Ideal S128x128 .i32) (sh st hit : Vec Ideal S128x128 .f32),
    Held (kArgs m c) 64 tgt sh st hit
    ∧ (outsAt0 m c 63 last_lt).1 = k0_pay6 sh st
    ∧ (outsAt0 m c 63 last_lt).2.1 = k0_pay9 sh st hit (iblk m c 5 ⟨63, last_lt⟩)
    ∧ (outsAt0 m c 63 last_lt).2.2.1 = k0_pay7 sh
    ∧ (outsAt0 m c 63 last_lt).2.2.2.1 = k0_pay8 st := by
  have H := held_after m c 62 (Nat.lt_of_succ_lt last_lt) (by decide)
  refine ⟨_, _, _, _, H.point (block_x m c ⟨63, last_lt⟩) (block_head m c ⟨63, last_lt⟩) (block_tail m c ⟨63, last_lt⟩) _
    (coord_val ⟨63, last_lt⟩), ?_⟩
  rw [show outsAt0 m c 63 last_lt = _ from outsAt0_succ m c 62 last_lt, stAt0_C m c ⟨63, last_lt⟩ _ (by decide) rfl]
  dsimp only
  rw [out_C_6, out_C_7, out_C_8, out_C_9]
  exact ⟨rfl, rfl, rfl, rfl⟩

/-- The kernel's four results of a device, entry by entry. -/
theorem kernel_results (s : Fin 128) (hv : ((kArgs m c).tgt s).toInt < 131072) :
    G6 m c (ix2 0 s) = (((kArgs m c).lse s : ℝ) : EReal)
    ∧ G7 m c (ix2 0 s) = (((kArgs m c).logprob s : ℝ) : EReal)
    ∧ G8 m c (ix2 0 s) = (((kArgs m c).lseHead s : ℝ) : EReal)
    ∧ G9 m c (ix2 0 s) = (((kArgs m c).lseTail s : ℝ) : EReal) := by
  obtain ⟨tgt, sh, st, hit, H, h6, h7, h8, h9⟩ := last_point m c
  have e := outsAt0_sweep m c 63 last_lt
  rw [G6_last, G7_last, G8_last, G9_last, ← e, h6, h7, h8, h9]
  exact ⟨H.lse s, H.logprob s _ (block_tgt m c _ s) hv, H.lseHead s, H.lseTail s⟩

end Cert.TwoTier

end
-- ==== Proof.RefHead.lean ====
/- The reference's head tier, read over the arguments: its capped logits. -/
module

public import proofs.«01_k».proof.Proof.Spec
public import proofs.«01_k».proof.Proof.Consts
public import proofs.«01_k».proof.Proof.Gen.ReferenceIdeal.Read

@[expose] public section

noncomputable section

namespace Cert.TwoTier

open Idealize.ShloMosaic Cert.ReferenceIdeal Cert.ReferenceIdeal.Read

/-- Dividing by thirty is multiplying by its reciprocal. -/
theorem div_thirty (z : EReal) : Ideal.div z ((30 : ℝ) : EReal) = z * ((1 / 30 : ℝ) : EReal) :=
  Ideal.div_coe (by norm_num) z

/-- Thirty times the hyperbolic tangent is thirty times the capped real. -/
theorem thirty_tanh (z : EReal) : ((30 : ℝ) : EReal) * Ideal.tanh z = ((30 * cap z : ℝ) : EReal) := by
  rw [tanh_eq_cap, ← EReal.coe_mul]

/-- The reference's capped logits of the head tier. -/
theorem ref_head (A : Args) (x0 : Vec Ideal S1x128x2304 .bf16) (x2 : Vec Ideal S16384 .f32) (r0 : Vec Ideal S16384x2304 .bf16)
    (h0 : ∀ s k, x0 (ix3 0 s k) = A.x s k) (h2 : ∀ v, x2 (ix1 v) = A.sh v) (hr : ∀ v k, r0 (ix2 v k) = A.wh v k)
    (s : Fin 128) (v : Fin 16384) :
    val_main_v9 (F := Ideal) x0 x2 r0 (ix3 0 s v) = ((30 * A.headT s v : ℝ) : EReal) := by
  rw [val_main_v9_apply, val_main_v8_apply, val_main_cst_0_apply, val_main_v7_apply, val_main_v6_apply, val_main_v4_apply,
    val_main_v1_apply, val_main_v3_apply, val_main_v2_apply, val_main_v5_apply, val_main_cst_apply]
  have e0 : ∀ k, x0 (lidx_main_v1 (ix3 0 s v) k) = A.x s k := fun k =>
    (congrArg x0 (funext fun a => by fin_cases a <;> rfl)).trans (h0 s k)
  have er : ∀ k, r0 (ridx_main_v1 (ix3 0 s v) k) = A.wh v k := fun k =>
    (congrArg r0 (funext fun a => by fin_cases a <;> rfl)).trans (hr v k)
  have e2 : x2 (idx_main_v2 (idx_main_v3 (ix3 0 s v))) = A.sh v :=
    (congrArg x2 (funext fun a => by fin_cases a; rfl)).trans (h2 v)
  rw [Finset.sum_congr rfl fun k _ => by rw [e0, er], e2]
  show Ideal.ofBits .f32 0x41F00000#32 * Ideal.tanh (Ideal.div ((∑ k, A.x s k * A.wh v k) * A.sh v) (Ideal.ofBits .f32 0x41F00000#32)) = _
  rw [lit_thirty, div_thirty, mul_assoc, thirty_tanh]
  rfl

end Cert.TwoTier

end
-- ==== Proof.RefTail.lean ====
/- The reference's tail tier, read over the arguments: its 4-bit weights and its capped logits. -/
module

public import proofs.«01_k».proof.Proof.RefHead
public import Idealize.ShloMosaic.Lib.Pointwise

@[expose] public section

noncomputable section

namespace Cert.TwoTier

open Idealize.ShloMosaic Cert.ReferenceIdeal Cert.ReferenceIdeal.Read

/-- Sixteen less, from eight on: a 4-bit code as a signed number. -/
def signed4 (w : BitVec 32) : BitVec 32 := Scalar.select (IntOp.cmpi .sge w 8#32) (IntOp.subi w 16#32) w

/-- The low four bits of a byte, signed, are its low half. -/
theorem signed4_low (b : BitVec 8) : (signed4 (IntOp.andi (b.setWidth 32) 15#32)).toInt = low b := by
  revert b; decide

/-- The byte shifted down by four, signed, is its high half. -/
theorem signed4_high (b : BitVec 8) : (signed4 (IntOp.shrsi .host (b.setWidth 32) 4#32)).toInt = high b := by
  revert b; decide

section

variable (A : Args) (x0 : Vec Ideal S1x128x2304 .bf16) (x3 : Vec Ideal S114688x1152 .i8) (x4 : Vec Ideal S114688x18 .bf16)
  (h0 : ∀ s k, x0 (ix3 0 s k) = A.x s k) (h3 : ∀ v j, x3 (ix2 v j) = A.codes v j) (h4 : ∀ v g, x4 (ix2 v g) = A.st v g)

include h3 h4 in
/-- The reference's weight of the low half of byte `j` is the tail tier's weight of column `2 j`. -/
theorem ref_low (v : Fin 114688) (j : Fin 1152) :
    val_main_v23 (F := Ideal) x3 x4 (ix2 v j) = A.wt v ⟨2 * j.val, by omega⟩ := by
  rw [val_main_v23_apply, val_main_v22_apply, val_main_v19_apply, val_main_v18_apply, val_main_v17_apply, val_main_v14_apply,
    val_main_v16_apply, val_main_v12_apply, val_main_v10_apply, val_main_v11_apply, val_main_v13_apply, val_main_v15_apply,
    val_main_c_apply, val_main_c_1_apply, val_main_c_2_apply, val_main_v21_apply, val_main_v20_apply]
  have e3 : x3 (idx_main_v19 (idx_main_v23 (ix2 v j))) = A.codes v j :=
    (congrArg x3 (funext fun a => Fin.ext (by
      have hv := v.isLt
      have hj := j.isLt
      match a with
      | ⟨0, _⟩ =>
        show (((v.val * 1152 + j.val) / 1152 * 18 + (v.val * 1152 + j.val) / 64 % 18) * 64 + (v.val * 1152 + j.val) % 64) / 1152 = v.val
        omega
      | ⟨1, _⟩ =>
        show (((v.val * 1152 + j.val) / 1152 * 18 + (v.val * 1152 + j.val) / 64 % 18) * 64 + (v.val * 1152 + j.val) % 64) % 1152 = j.val
        omega))).trans (h3 v j)
  have e4 : x4 (idx_main_v20 (idx_main_v21 (idx_main_v23 (ix2 v j)))) = A.st v ⟨2 * j.val / 128, by omega⟩ :=
    (congrArg x4 (funext fun a => Fin.ext (by
      have hv := v.isLt
      have hj := j.isLt
      match a with
      | ⟨0, _⟩ =>
        show (v.val * 1152 + j.val) / 1152 = v.val
        omega
      | ⟨1, _⟩ =>
        show (v.val * 1152 + j.val) / 64 % 18 = 2 * j.val / 128
        omega))).trans (h4 v _)
  rw [e3, e4]
  show (((signed4 (IntOp.andi ((A.codes v j).setWidth 32) 15#32)).toInt : ℝ) : EReal) * _ = _
  rw [signed4_low]
  unfold Args.wt Args.code
  rw [if_pos (by show 2 * j.val % 2 = 0; omega), show (⟨2 * j.val / 2, by omega⟩ : Fin 1152) = j from Fin.ext (by show 2 * j.val / 2 = j.val; omega)]

include h3 h4 in
/-- The reference's weight of the high half of byte `j` is the tail tier's weight of column `2 j + 1`. -/
theorem ref_high (v : Fin 114688) (j : Fin 1152) :
    val_main_v36 (F := Ideal) x3 x4 (ix2 v j) = A.wt v ⟨2 * j.val + 1, by omega⟩ := by
  rw [val_main_v36_apply, val_main_v35_apply, val_main_v32_apply, val_main_v31_apply, val_main_v30_apply, val_main_v27_apply,
    val_main_v29_apply, val_main_v25_apply, val_main_v10_apply, val_main_v24_apply, val_main_v26_apply, val_main_v28_apply,
    val_main_c_3_apply, val_main_c_4_apply, val_main_c_5_apply, val_main_v34_apply, val_main_v33_apply]
  have e3 : x3 (idx_main_v32 (idx_main_v36 (ix2 v j))) = A.codes v j :=
    (congrArg x3 (funext fun a => Fin.ext (by
      have hv := v.isLt
      have hj := j.isLt
      match a with
      | ⟨0, _⟩ =>
        show (((v.val * 1152 + j.val) / 1152 * 18 + (v.val * 1152 + j.val) / 64 % 18) * 64 + (v.val * 1152 + j.val) % 64) / 1152 = v.val
        omega
      | ⟨1, _⟩ =>
        show (((v.val * 1152 + j.val) / 1152 * 18 + (v.val * 1152 + j.val) / 64 % 18) * 64 + (v.val * 1152 + j.val) % 64) % 1152 = j.val
        omega))).trans (h3 v j)
  have e4 : x4 (idx_main_v33 (idx_main_v34 (idx_main_v36 (ix2 v j)))) = A.st v ⟨(2 * j.val + 1) / 128, by omega⟩ :=
    (congrArg x4 (funext fun a => Fin.ext (by
      have hv := v.isLt
      have hj := j.isLt
      match a with
      | ⟨0, _⟩ =>
        show (v.val * 1152 + j.val) / 1152 = v.val
        omega
      | ⟨1, _⟩ =>
        show (v.val * 1152 + j.val) / 64 % 18 = (2 * j.val + 1) / 128
        omega))).trans (h4 v _)
  rw [e3, e4]
  show (((signed4 (IntOp.shrsi .host ((A.codes v j).setWidth 32) 4#32)).toInt : ℝ) : EReal) * _ = _
  rw [signed4_high]
  unfold Args.wt Args.code
  rw [if_neg (by show ¬ (2 * j.val + 1) % 2 = 0; omega), show (⟨(2 * j.val + 1) / 2, by omega⟩ : Fin 1152) = j from Fin.ext (by show (2 * j.val + 1) / 2 = j.val; omega)]

include h0 in
/-- The even columns of the activations. -/
theorem ref_even (s : Fin 128) (j : Fin 1152) : val_main_v37 (F := Ideal) x0 (ix3 0 s j) = A.x s ⟨2 * j.val, by omega⟩ := by
  rw [← h0]
  unfold val_main_v37
  exact congrArg x0 (funext fun a => Fin.ext (by
    match a with
    | ⟨0, _⟩ => rfl
    | ⟨1, _⟩ => show 0 + 1 * s.val = s.val; omega
    | ⟨2, _⟩ => show 0 + 2 * j.val = 2 * j.val; omega))

include h0 in
/-- The odd columns of the activations. -/
theorem ref_odd (s : Fin 128) (j : Fin 1152) : val_main_v39 (F := Ideal) x0 (ix3 0 s j) = A.x s ⟨2 * j.val + 1, by omega⟩ := by
  rw [← h0]
  unfold val_main_v39
  exact congrArg x0 (funext fun a => Fin.ext (by
    match a with
    | ⟨0, _⟩ => rfl
    | ⟨1, _⟩ => show 0 + 1 * s.val = s.val; omega
    | ⟨2, _⟩ => show 1 + 2 * j.val = 2 * j.val + 1; omega))

include h0 h3 h4 in
/-- The reference's capped logits of the tail tier. -/
theorem ref_tail (s : Fin 128) (v : Fin 114688) :
    val_main_v46 (F := Ideal) x0 x3 x4 (ix3 0 s v) = ((30 * A.tailT s v : ℝ) : EReal) := by
  rw [val_main_v46_apply, val_main_v45_apply, val_main_cst_7_apply, val_main_v44_apply, val_main_v43_apply, val_main_v41_apply,
    val_main_v42_apply, val_main_cst_6_apply]
  have e37 : ∀ j, val_main_v37 (F := Ideal) x0 (lidx_main_v38 (ix3 0 s v) j) = A.x s ⟨2 * j.val, by omega⟩ := fun j =>
    (congrArg (val_main_v37 (F := Ideal) x0) (funext fun a => by fin_cases a <;> rfl)).trans (ref_even A x0 h0 s j)
  have e39 : ∀ j, val_main_v39 (F := Ideal) x0 (lidx_main_v40 (ix3 0 s v) j) = A.x s ⟨2 * j.val + 1, by omega⟩ := fun j =>
    (congrArg (val_main_v39 (F := Ideal) x0) (funext fun a => by fin_cases a <;> rfl)).trans (ref_odd A x0 h0 s j)
  have e23 : ∀ j, val_main_v23 (F := Ideal) x3 x4 (ridx_main_v38 (ix3 0 s v) j) = A.wt v ⟨2 * j.val, by omega⟩ := fun j =>
    (congrArg (val_main_v23 (F := Ideal) x3 x4) (funext fun a => by fin_cases a <;> rfl)).trans (ref_low A x3 x4 h3 h4 v j)
  have e36 : ∀ j, val_main_v36 (F := Ideal) x3 x4 (ridx_main_v40 (ix3 0 s v) j) = A.wt v ⟨2 * j.val + 1, by omega⟩ := fun j =>
    (congrArg (val_main_v36 (F := Ideal) x3 x4) (funext fun a => by fin_cases a <;> rfl)).trans (ref_high A x3 x4 h3 h4 v j)
  have e38 : val_main_v38 (F := Ideal) x0 x3 x4 (ix3 0 s v)
      = ∑ j : Fin 1152, A.x s ⟨2 * j.val, by omega⟩ * A.wt v ⟨2 * j.val, by omega⟩ := by
    rw [val_main_v38_apply]
    exact Finset.sum_congr rfl fun j _ => by rw [e37, e23]
  have e40 : val_main_v40 (F := Ideal) x0 x3 x4 (ix3 0 s v)
      = ∑ j : Fin 1152, A.x s ⟨2 * j.val + 1, by omega⟩ * A.wt v ⟨2 * j.val + 1, by omega⟩ := by
    rw [val_main_v40_apply]
    exact Finset.sum_congr rfl fun j _ => by rw [e39, e36]
  have es : FloatOps.addf (F := Ideal) (φ := .f32) (val_main_v38 (F := Ideal) x0 x3 x4 (ix3 0 s v))
      (val_main_v40 (F := Ideal) x0 x3 x4 (ix3 0 s v)) = ∑ k : Fin 2304, A.x s k * A.wt v k := by
    rw [e38, e40, sum_even_odd (show 1152 * 2 = 2304 from rfl) fun k => A.x s k * A.wt v k]
    rfl
  rw [es]
  show Ideal.ofBits .f32 0x41F00000#32 * Ideal.tanh (Ideal.div (∑ k : Fin 2304, A.x s k * A.wt v k) (Ideal.ofBits .f32 0x41F00000#32)) = _
  rw [lit_thirty, div_thirty, thirty_tanh]
  rfl

end

end Cert.TwoTier

end
-- ==== Proof.RefLse.lean ====
/- The reference's logarithms of sums of exponentials: of each tier, and of both. -/
module

public import proofs.«01_k».proof.Proof.RefTail

@[expose] public section

noncomputable section

namespace Cert.TwoTier

open Idealize.ShloMosaic Cert.ReferenceIdeal Cert.ReferenceIdeal.Gen Cert.ReferenceIdeal.Read

/-- The greatest of finitely many reals, folded from `⊥`, is a real. -/
theorem fold_max_real {ι : Type*} (s : Finset ι) (hs : s.Nonempty) (x : ι → EReal) (f : ι → ℝ) (hx : ∀ i, x i = ((f i : ℝ) : EReal)) :
    ∃ M : ℝ, s.fold (max : EReal → EReal → EReal) ⊥ x = ((M : ℝ) : EReal) := by
  induction hs using Finset.Nonempty.cons_induction with
  | singleton a => exact ⟨f a, by rw [Finset.fold_singleton, hx]; exact max_bot_right _⟩
  | cons a s ha hs ih =>
    obtain ⟨M, hM⟩ := ih
    exact ⟨max (f a) M, by rw [Finset.fold_cons, hM, hx]; exact (EReal.coe_strictMono.monotone.map_max).symm⟩

/-- A host maximum along one axis of an array of reals, from `−∞`, is a real. -/
theorem reduce_max_real {s t u : Shape} {a : Fin s.rank} (x : FVec Ideal s .f32) (f : s.Idx → ℝ) (hx : ∀ i, x i = ((f i : ℝ) : EReal))
    (init : FVec Ideal u .f32) (hi : ∀ i, init i = (⊥ : EReal)) (h' : s.ReducesTo [a] t) (h : s.Reduces [a] t) (hu : 0 < u.numel)
    (hn : 0 < s.size a) (j : t.Idx) :
    ∃ M : ℝ, Host.reduce FloatOps.maximumf x init h' hu j = ((M : ℝ) : EReal) := by
  rw [Host.reduce_eq_fold_single FloatOps.maximumf x init h' h hu j, hi]
  exact fold_max_real Finset.univ ⟨⟨0, hn⟩, Finset.mem_univ _⟩ (x ∘ h.lift j) (f ∘ h.lift j) fun k => hx _

/-- A real passes the test of finiteness and stays as it is. -/
theorem finite_select (M : ℝ) :
    Scalar.select (FloatOps.cmpf (F := Ideal) (φ := .f32) .olt (FloatOps.hostAbsf (F := Ideal) (φ := .f32) ((M : ℝ) : EReal))
      (Ideal.ofBits .f32 0x7F800000#32)) ((M : ℝ) : EReal) (Ideal.ofBits .f32 0x00000000#32) = ((M : ℝ) : EReal) := by
  have hlt : max ((M : ℝ) : EReal) (-((M : ℝ) : EReal)) < ⊤ :=
    max_lt (EReal.coe_lt_top M) (by rw [← EReal.coe_neg]; exact EReal.coe_lt_top _)
  rw [lit_top]
  show Scalar.select (BitVec.ofBool (decide (max ((M : ℝ) : EReal) (-((M : ℝ) : EReal)) < ⊤))) _ _ = _
  rw [decide_eq_true hlt]
  rfl

/-- The reference's logarithm of the sum of exponentials of the head tier. -/
theorem ref_lseHead (A : Args) (x0 : Vec Ideal S1x128x2304 .bf16) (x2 : Vec Ideal S16384 .f32) (r0 : Vec Ideal S16384x2304 .bf16)
    (h0 : ∀ s k, x0 (ix3 0 s k) = A.x s k) (h2 : ∀ v, x2 (ix1 v) = A.sh v) (hr : ∀ v k, r0 (ix2 v k) = A.wh v k) (s : Fin 128) :
    val_main_v58 (F := Ideal) x0 x2 r0 (ix2 0 s) = ((A.lseHead s : ℝ) : EReal) := by
  have hz := ref_head A x0 x2 r0 h0 h2 hr
  obtain ⟨M, hM⟩ : ∃ M : ℝ, val_main_v47 (F := Ideal) x0 x2 r0 (ix2 0 s) = ((M : ℝ) : EReal) :=
    reduce_max_real (val_main_v9 (F := Ideal) x0 x2 r0) (fun i => 30 * A.headT (i 1) (i 2))
      (fun i => (congrArg (val_main_v9 (F := Ideal) x0 x2 r0) (funext fun a => by
        match a with
        | ⟨0, _⟩ => exact Fin.ext (by have := (i 0).isLt; show (i 0).val = 0; exact Nat.lt_one_iff.1 this)
        | ⟨1, _⟩ => rfl
        | ⟨2, _⟩ => rfl)).trans (hz (i 1) (i 2)))
      (val_main_cst_8 (F := Ideal)) (fun _ => lit_bot) reducesTo_S1x128x16384_S1x128_d2 (by decide) h_S_ (by decide) (ix2 0 s)
  have h51 : val_main_v51 (F := Ideal) x0 x2 r0 (ix2 0 s) = ((M : ℝ) : EReal) := by
    rw [val_main_v51_apply, val_main_v50_apply, val_main_v48_apply, val_main_v49_apply, val_main_cst_9_apply, val_main_call2_v1_apply,
      val_main_call2_v0_apply, val_main_cst_10_apply, hM]
    exact finite_select M
  have h55 : ∀ v, val_main_v55 (F := Ideal) x0 x2 r0 (idx_main_v56 (ix2 0 s) v)
      = Ideal.exp (((30 * A.headT s v : ℝ) : EReal) - ((M : ℝ) : EReal)) := fun v => by
    rw [show idx_main_v56 (ix2 0 s) v = ix3 0 s v from funext fun a => by fin_cases a <;> rfl,
      val_main_v55_apply, val_main_v54_apply, val_main_v53_apply, val_main_v52_apply, hz,
      show idx_main_v52 (idx_main_v53 (ix3 0 s v)) = ix2 0 s from funext fun a => by fin_cases a <;> rfl, h51]
    rfl
  have h56 : val_main_v56 (F := Ideal) x0 x2 r0 (ix2 0 s)
      = (∑ v : Fin 16384, Ideal.exp (((30 * A.headT s v : ℝ) : EReal) - ((M : ℝ) : EReal)) : EReal) := by
    rw [val_main_v56_apply, val_main_cst_11_apply]
    refine (congrArg (· + _) lit_zero).trans ((zero_add _).trans (Finset.sum_congr rfl fun v _ => h55 v))
  rw [val_main_v58_apply, val_main_v57_apply, h56, h51, Ideal.hostUnary_log_def, Ideal.addf_def]
  unfold Args.lseHead Args.headSum
  exact log_sum_exp_shift Finset.univ (fun v : Fin 16384 => 30 * A.headT s v) Finset.univ_nonempty M

/-- The reference's logarithm of the sum of exponentials of the tail tier. -/
theorem ref_lseTail (A : Args) (x0 : Vec Ideal S1x128x2304 .bf16) (x3 : Vec Ideal S114688x1152 .i8) (x4 : Vec Ideal S114688x18 .bf16)
    (h0 : ∀ s k, x0 (ix3 0 s k) = A.x s k) (h3 : ∀ v j, x3 (ix2 v j) = A.codes v j) (h4 : ∀ v g, x4 (ix2 v g) = A.st v g) (s : Fin 128) :
    val_main_v70 (F := Ideal) x0 x3 x4 (ix2 0 s) = ((A.lseTail s : ℝ) : EReal) := by
  have hz := ref_tail A x0 x3 x4 h0 h3 h4
  obtain ⟨M, hM⟩ : ∃ M : ℝ, val_main_v59 (F := Ideal) x0 x3 x4 (ix2 0 s) = ((M : ℝ) : EReal) :=
    reduce_max_real (val_main_v46 (F := Ideal) x0 x3 x4) (fun i => 30 * A.tailT (i 1) (i 2))
      (fun i => (congrArg (val_main_v46 (F := Ideal) x0 x3 x4) (funext fun a => by
        match a with
        | ⟨0, _⟩ => exact Fin.ext (by have := (i 0).isLt; show (i 0).val = 0; exact Nat.lt_one_iff.1 this)
        | ⟨1, _⟩ => rfl
        | ⟨2, _⟩ => rfl)).trans (hz (i 1) (i 2)))
      (val_main_cst_12 (F := Ideal)) (fun _ => lit_bot) reducesTo_S1x128x114688_S1x128_d2 (by decide) h_S_ (by decide) (ix2 0 s)
  have h63 : val_main_v63 (F := Ideal) x0 x3 x4 (ix2 0 s) = ((M : ℝ) : EReal) := by
    rw [val_main_v63_apply, val_main_v62_apply, val_main_v60_apply, val_main_v61_apply, val_main_cst_13_apply, val_main_call3_v1_apply,
      val_main_call3_v0_apply, val_main_cst_14_apply, hM]
    exact finite_select M
  have h67 : ∀ v, val_main_v67 (F := Ideal) x0 x3 x4 (idx_main_v68 (ix2 0 s) v)
      = Ideal.exp (((30 * A.tailT s v : ℝ) : EReal) - ((M : ℝ) : EReal)) := fun v => by
    rw [show idx_main_v68 (ix2 0 s) v = ix3 0 s v from funext fun a => by fin_cases a <;> rfl,
      val_main_v67_apply, val_main_v66_apply, val_main_v65_apply, val_main_v64_apply, hz,
      show idx_main_v64 (idx_main_v65 (ix3 0 s v)) = ix2 0 s from funext fun a => by fin_cases a <;> rfl, h63]
    rfl
  have h68 : val_main_v68 (F := Ideal) x0 x3 x4 (ix2 0 s)
      = (∑ v : Fin 114688, Ideal.exp (((30 * A.tailT s v : ℝ) : EReal) - ((M : ℝ) : EReal)) : EReal) := by
    rw [val_main_v68_apply, val_main_cst_15_apply]
    refine (congrArg (· + _) lit_zero).trans ((zero_add _).trans (Finset.sum_congr rfl fun v _ => h67 v))
  rw [val_main_v70_apply, val_main_v69_apply, h68, h63, Ideal.hostUnary_log_def, Ideal.addf_def]
  unfold Args.lseTail Args.tailSum
  exact log_sum_exp_shift Finset.univ (fun v : Fin 114688 => 30 * A.tailT s v) Finset.univ_nonempty M

/-- The reference's logarithm of the sum of exponentials of both tiers. -/
theorem ref_lse (A : Args) (x0 : Vec Ideal S1x128x2304 .bf16) (x2 : Vec Ideal S16384 .f32) (x3 : Vec Ideal S114688x1152 .i8)
    (x4 : Vec Ideal S114688x18 .bf16) (r0 : Vec Ideal S16384x2304 .bf16)
    (h0 : ∀ s k, x0 (ix3 0 s k) = A.x s k) (h2 : ∀ v, x2 (ix1 v) = A.sh v) (h3 : ∀ v j, x3 (ix2 v j) = A.codes v j)
    (h4 : ∀ v g, x4 (ix2 v g) = A.st v g) (hr : ∀ v k, r0 (ix2 v k) = A.wh v k) (s : Fin 128) :
    val_main_v80 (F := Ideal) x0 x2 x3 x4 r0 (ix2 0 s) = ((A.lse s : ℝ) : EReal) := by
  rw [val_main_v80_apply, val_main_v73_apply, val_main_v79_apply, val_main_v71_apply, val_main_v78_apply, val_main_v77_apply,
    val_main_v76_apply, val_main_v75_apply, val_main_v72_apply, ref_lseHead A x0 x2 r0 h0 h2 hr, ref_lseTail A x0 x3 x4 h0 h3 h4]
  have hc : ∀ z : EReal, FloatOps.cmpf (F := Ideal) (φ := .f32) .une z z = 0#1 := fun z => by
    show BitVec.ofBool (decide (z ≠ z)) = 0#1
    rw [decide_eq_false (by simp)]
    rfl
  rw [hc]
  show max ((A.lseHead s : ℝ) : EReal) ((A.lseTail s : ℝ) : EReal) + Ideal.log1p (Ideal.exp (-(max (((A.lseHead s : ℝ) : EReal) - ((A.lseTail s : ℝ) : EReal))
    (-(((A.lseHead s : ℝ) : EReal) - ((A.lseTail s : ℝ) : EReal)))))) = _
  rw [logaddexp_coe]
  unfold Args.lseHead Args.lseTail Args.lse
  rw [Real.exp_log (A.headSum_pos s), Real.exp_log (A.tailSum_pos s)]

end Cert.TwoTier

end
-- ==== Proof.Gather.lean ====
/- The reference's selection of one entry along the last axis, by a word that lies within it. -/
module

public import proofs.«01_k».proof.Proof.RefLse
public import proofs.«01_k».proof.Proof.Words

@[expose] public section

noncomputable section

namespace Cert.TwoTier

open Idealize.ShloMosaic Cert.ReferenceIdeal Cert.ReferenceIdeal.Gen Cert.ReferenceIdeal.Read

/-- The dimension numbers of a selection along the last axis of an array of 128 rows of `n` entries, one entry for each row. -/
abbrev alongLast (n : ℕ) (wf : GatherDims.WF ⟨3, ![1, 128, n]⟩ S128x1x1 S1x128x1 [0] [2] [1] [2] [0] 2 ![1, 1, 1]) :
    GatherDims ⟨3, ![1, 128, n]⟩ S128x1x1 S1x128x1 where
  offsetDims := [0]
  collapsedSliceDims := [2]
  operandBatchingDims := [1]
  startIndicesBatchingDims := [0]
  startIndexMap := [2]
  indexVectorDim := 2
  sliceSizes := ![1, 1, 1]
  wf := wf

/-- Row `s` of the selection is the row's entry at the position its word names. -/
theorem gather_last {α : Type} (n : ℕ) (wf : GatherDims.WF ⟨3, ![1, 128, n]⟩ S128x1x1 S1x128x1 [0] [2] [1] [2] [0] 2 ![1, 1, 1])
    (x : Shape.Idx ⟨3, ![1, 128, n]⟩ → α) (idx : IVec S128x1x1 32) (s : Fin 128) (k : Fin n)
    (hk : (idx (ix3 s 0 0)).toInt = (k.val : ℤ)) :
    Host.gather (alongLast n wf) x idx (ix3 0 s 0) = x (ix3 0 s k) := by
  show x ((alongLast n wf).operandIdx (ix3 0 s 0) idx) = _
  refine congrArg x (funext fun a => ?_)
  match a with
  | ⟨0, _⟩ => exact Fin.ext rfl
  | ⟨1, _⟩ => exact Fin.ext (by show 0 + s.val + 0 = s.val; omega)
  | ⟨2, _⟩ =>
    have hi : (alongLast n wf).siIdx (ix3 0 s 0) ⟨0, Nat.one_pos⟩ = ix3 s 0 0 := by
      funext b
      match b with
      | ⟨0, _⟩ => exact Fin.ext rfl
      | ⟨1, _⟩ => exact Fin.ext rfl
      | ⟨2, _⟩ => exact Fin.ext rfl
    refine Fin.ext ?_
    show min (idx ((alongLast n wf).siIdx (ix3 0 s 0) ⟨0, Nat.one_pos⟩)).toInt.toNat (n - 1) + 0 + 0 = k.val
    rw [hi, hk]
    have := k.isLt
    omega

end Cert.TwoTier

end
-- ==== Proof.RefTarget.lean ====
/- The reference's log-probability of the target: the target's capped logit, less the logarithm of the sum over both tiers. -/
module

public import proofs.«01_k».proof.Proof.Gather
public import Idealize.ShloMosaic.Lib.ReduceAll

@[expose] public section

noncomputable section

namespace Cert.TwoTier

open Idealize.ShloMosaic Cert.ReferenceIdeal Cert.ReferenceIdeal.Gen Cert.ReferenceIdeal.Read

/-- A word between zero and the last position of an axis passes the two tests the selection makes of it, and is not moved. -/
theorem pick_word (w b n : BitVec 32) (hb : 0 ≤ b.toInt) (w' : BitVec 32)
    (hw : w' = Scalar.select (IntOp.cmpi .slt (IntOp.minsi b (IntOp.maxsi 0#32 w)) 0#32) n (IntOp.minsi b (IntOp.maxsi 0#32 w))) :
    w' = IntOp.minsi b (IntOp.maxsi 0#32 w) ∧ IntOp.andi (IntOp.cmpi .sge w' 0#32) (IntOp.cmpi .sle w' b) = 1#1 := by
  have hc := clip_toInt w b
  have h0 : 0 ≤ (IntOp.minsi b (IntOp.maxsi 0#32 w)).toInt := by
    rw [hc]; exact le_min hb (le_max_left 0 _)
  have h1 : (IntOp.minsi b (IntOp.maxsi 0#32 w)).toInt ≤ b.toInt := by
    rw [hc]; exact min_le_left _ _
  have e : w' = IntOp.minsi b (IntOp.maxsi 0#32 w) := by
    rw [hw, slt_not _ _ (by rw [BitVec.toInt_zero]; exact not_lt.2 h0)]
    exact if_neg (by decide)
  refine ⟨e, ?_⟩
  rw [e, sge_zero_of _ h0, sle_of _ _ h1]
  decide

/-- The position the head's selection reads in row `s`, and the tests it makes of it. -/
theorem head_word (x5 : Vec Ideal S1x128 .i32) (i : S128x1x1.Idx) :
    val_main_call6_v5 (F := Ideal) x5 i = IntOp.minsi 16383#32 (IntOp.maxsi 0#32 (x5 (idx_main_v87 (idx_main_call6_v5 i))))
    ∧ val_main_call6_v11 (F := Ideal) x5 i = 1#1 := by
  refine pick_word (x5 (idx_main_v87 (idx_main_call6_v5 i))) 16383#32
    (IntOp.addi (val_main_v87 (F := Ideal) x5 (idx_main_call6_v5 i)) 16384#32) (by decide) (val_main_call6_v5 (F := Ideal) x5 i) ?_
  rw [val_main_call6_v5_apply, val_main_call6_v4_apply, val_main_call6_v1_apply, val_main_call6_v0_apply, val_main_call6_c_apply,
    val_main_call6_v3_apply, val_main_call6_v2_apply, val_main_call6_c_0_apply, val_main_v87_apply, val_main_v83_apply,
    val_main_call4_v4_apply, val_main_call4_v3_apply, val_main_c_18_apply, val_main_call4_v2_apply, val_main_call4_v1_apply,
    val_main_call4_v0_apply, val_main_c_17_apply]

/-- The position the tail's selection reads in row `s`, and the tests it makes of it. -/
theorem tail_word (x5 : Vec Ideal S1x128 .i32) (i : S128x1x1.Idx) :
    val_main_call7_v5 (F := Ideal) x5 i
      = IntOp.minsi 114687#32 (IntOp.maxsi 0#32 (IntOp.subi (x5 (idx_main_v90 (idx_main_call7_v5 i))) 16384#32))
    ∧ val_main_call7_v11 (F := Ideal) x5 i = 1#1 := by
  refine pick_word (IntOp.subi (x5 (idx_main_v90 (idx_main_call7_v5 i))) 16384#32) 114687#32
    (IntOp.addi (val_main_v90 (F := Ideal) x5 (idx_main_call7_v5 i)) 114688#32) (by decide) (val_main_call7_v5 (F := Ideal) x5 i) ?_
  rw [val_main_call7_v5_apply, val_main_call7_v4_apply, val_main_call7_v1_apply, val_main_call7_v0_apply, val_main_call7_c_apply,
    val_main_call7_v3_apply, val_main_call7_v2_apply, val_main_call7_c_0_apply, val_main_v90_apply, val_main_v86_apply,
    val_main_call5_v4_apply, val_main_call5_v3_apply, val_main_c_21_apply, val_main_call5_v2_apply, val_main_call5_v1_apply,
    val_main_call5_v0_apply, val_main_c_20_apply, val_main_v85_apply, val_main_v84_apply, val_main_c_19_apply]

/-- A target in the head tier selects its own capped logit. -/
theorem head_pick (x0 : Vec Ideal S1x128x2304 .bf16) (x2 : Vec Ideal S16384 .f32) (x5 : Vec Ideal S1x128 .i32)
    (r0 : Vec Ideal S16384x2304 .bf16) (s : Fin 128) (k : Fin 16384) (hk : (x5 (ix2 0 s)).toInt = (k.val : ℤ)) :
    val_main_v89 (F := Ideal) x0 x2 x5 r0 (ix2 0 s) = val_main_v9 (F := Ideal) x0 x2 r0 (ix3 0 s k) := by
  have hs := s.isLt
  have hk' := k.isLt
  have e1 : idx_main_v89 (ix2 0 s) = ix3 0 s 0 := funext fun a => by
    match a with
    | ⟨0, _⟩ => rfl
    | ⟨1, _⟩ => exact Fin.ext (by show (0 * 128 + s.val) / 1 % 128 = s.val; omega)
    | ⟨2, _⟩ => rfl
  have e2 : idx_main_v87 (idx_main_call6_v5 (ix3 s 0 0)) = ix2 0 s := funext fun a => by
    match a with
    | ⟨0, _⟩ => rfl
    | ⟨1, _⟩ => exact Fin.ext (by show ((s.val * 1 + 0) * 1 + 0) / 1 % 128 = s.val; omega)
  have hw : (val_main_call6_v5 (F := Ideal) x5 (ix3 s 0 0)).toInt = (k.val : ℤ) := by
    rw [(head_word x5 _).1, e2, clip_of _ _ (by omega) (by rw [hk, show (16383#32 : BitVec 32).toInt = 16383 from rfl]; omega), hk]
  rw [val_main_v89_apply, e1, val_main_v88_apply, val_main_call6_v14_apply,
    show val_main_call6_v12 (F := Ideal) x5 (idx_main_call6_v14 (ix3 0 s 0)) = 1#1 from
      Host.reduce_andi_one _ _ reducesTo_S128x1x1_S128x1_d2 h_S_ _ rfl fun i => (head_word x5 i).2]
  exact gather_last 16384 Facts₀.gather_S1x128x16384_S128x1x1_S1x128x1_0_2_1_0_2_2_111_wf (val_main_v9 (F := Ideal) x0 x2 r0) _ s k hw

/-- A target in the tail tier selects its own capped logit. -/
theorem tail_pick (x0 : Vec Ideal S1x128x2304 .bf16) (x3 : Vec Ideal S114688x1152 .i8) (x4 : Vec Ideal S114688x18 .bf16)
    (x5 : Vec Ideal S1x128 .i32) (s : Fin 128) (k : Fin 114688) (hk : (x5 (ix2 0 s)).toInt = (16384 + k.val : ℤ)) :
    val_main_v92 (F := Ideal) x0 x3 x4 x5 (ix2 0 s) = val_main_v46 (F := Ideal) x0 x3 x4 (ix3 0 s k) := by
  have hs := s.isLt
  have hk' := k.isLt
  have e1 : idx_main_v92 (ix2 0 s) = ix3 0 s 0 := funext fun a => by
    match a with
    | ⟨0, _⟩ => rfl
    | ⟨1, _⟩ => exact Fin.ext (by show (0 * 128 + s.val) / 1 % 128 = s.val; omega)
    | ⟨2, _⟩ => rfl
  have e2 : idx_main_v90 (idx_main_call7_v5 (ix3 s 0 0)) = ix2 0 s := funext fun a => by
    match a with
    | ⟨0, _⟩ => rfl
    | ⟨1, _⟩ => exact Fin.ext (by show ((s.val * 1 + 0) * 1 + 0) / 1 % 128 = s.val; omega)
  have hsub : (IntOp.subi (x5 (ix2 0 s)) 16384#32).toInt = (k.val : ℤ) := by
    show (x5 (ix2 0 s) - 16384#32 : BitVec 32).toInt = _
    rw [BitVec.toInt_sub, hk, show (16384#32 : BitVec 32).toInt = 16384 from rfl, Int.bmod_eq_of_le (by omega) (by omega)]
    omega
  have hw : (val_main_call7_v5 (F := Ideal) x5 (ix3 s 0 0)).toInt = (k.val : ℤ) := by
    rw [(tail_word x5 _).1, e2, clip_of _ _ (by omega) (by rw [hsub, show (114687#32 : BitVec 32).toInt = 114687 from rfl]; omega), hsub]
  rw [val_main_v92_apply, e1, val_main_v91_apply, val_main_call7_v14_apply,
    show val_main_call7_v12 (F := Ideal) x5 (idx_main_call7_v14 (ix3 0 s 0)) = 1#1 from
      Host.reduce_andi_one _ _ reducesTo_S128x1x1_S128x1_d2 h_S_ _ rfl fun i => (tail_word x5 i).2]
  exact gather_last 114688 Facts₀.gather_S1x128x114688_S128x1x1_S1x128x1_0_2_1_0_2_2_111_wf (val_main_v46 (F := Ideal) x0 x3 x4) _ s k hw

/-- The reference's log-probability of the target. -/
theorem ref_logprob (A : Args) (x0 : Vec Ideal S1x128x2304 .bf16) (x2 : Vec Ideal S16384 .f32) (x3 : Vec Ideal S114688x1152 .i8)
    (x4 : Vec Ideal S114688x18 .bf16) (x5 : Vec Ideal S1x128 .i32) (r0 : Vec Ideal S16384x2304 .bf16)
    (h0 : ∀ s k, x0 (ix3 0 s k) = A.x s k) (h2 : ∀ v, x2 (ix1 v) = A.sh v) (h3 : ∀ v j, x3 (ix2 v j) = A.codes v j)
    (h4 : ∀ v g, x4 (ix2 v g) = A.st v g) (h5 : ∀ s, x5 (ix2 0 s) = A.tgt s) (hr : ∀ v k, r0 (ix2 v k) = A.wh v k) (s : Fin 128)
    (hv : (A.tgt s).toInt < 131072) :
    val_main_v97 (F := Ideal) x0 x2 x3 x4 x5 r0 (ix2 0 s) = ((A.logprob s : ℝ) : EReal) := by
  rw [val_main_v97_apply, val_main_v95_apply, val_main_v94_apply, val_main_c_22_apply, h5]
  by_cases hpos : 0 ≤ (A.tgt s).toInt
  · have hn : ((A.tgt s).toNat : ℤ) = (A.tgt s).toInt := by
      have := BitVec.toInt_eq_toNat_cond (A.tgt s)
      have := (A.tgt s).isLt
      split at * <;> omega
    rw [sge_zero_of _ hpos, val_main_v96_apply, ref_lse A x0 x2 x3 x4 r0 h0 h2 h3 h4 hr s]
    have hp : val_main_v93 (F := Ideal) x0 x2 x3 x4 x5 r0 (ix2 0 s) = ((30 * A.vocabT s (A.tgt s).toNat : ℝ) : EReal) := by
      rw [val_main_v93_apply, val_main_v82_apply, val_main_v81_apply, val_main_c_16_apply, h5]
      by_cases hh : (A.tgt s).toInt < 16384
      · rw [slt_of _ _ (by rw [show (16384#32 : BitVec 32).toInt = 16384 from rfl]; exact hh)]
        show val_main_v89 (F := Ideal) x0 x2 x5 r0 (ix2 0 s) = _
        rw [head_pick x0 x2 x5 r0 s ⟨(A.tgt s).toNat, by omega⟩ (by rw [h5]; exact hn.symm), ref_head A x0 x2 r0 h0 h2 hr]
        unfold Args.vocabT
        rw [dif_pos (by omega)]
      · rw [slt_not _ _ (by rw [show (16384#32 : BitVec 32).toInt = 16384 from rfl]; exact hh)]
        show val_main_v92 (F := Ideal) x0 x3 x4 x5 (ix2 0 s) = _
        rw [tail_pick x0 x3 x4 x5 s ⟨(A.tgt s).toNat - 16384, by omega⟩ (by rw [h5]; show _ = (16384 + (((A.tgt s).toNat - 16384 : ℕ) : ℤ)); omega),
          ref_tail A x0 x3 x4 h0 h3 h4]
        unfold Args.vocabT
        rw [dif_neg (by omega), dif_pos (by omega)]
    rw [hp]
    show ((30 * A.vocabT s (A.tgt s).toNat : ℝ) : EReal) - ((A.lse s : ℝ) : EReal) = _
    rw [← EReal.coe_sub]
    unfold Args.logprob
    rw [if_pos hpos]
  · rw [sge_zero_not _ hpos, val_main_call9_v1_apply, val_main_call9_v0_apply, val_main_cst_23_apply]
    show Ideal.ofBits .f32 0x00000000#32 = _
    rw [lit_zero]
    unfold Args.logprob
    rw [if_neg hpos]
    rfl

end Cert.TwoTier

end
-- ==== Proof.RefRegion.lean ====
/- The reference's one region: it holds the head weights, widened, which over the reals changes no entry. -/
module

public import proofs.«01_k».proof.Proof.RefTarget
public import proofs.«01_k».proof.Proof.Gen.ReferenceIdeal.Run
public import Idealize.ShloMosaic.Lib.Pipeline.Value
public import Idealize.ShloMosaic.Lib.Affine

@[expose] public section

noncomputable section

namespace Cert.TwoTier

open Idealize.ShloMosaic Idealize.SL.Sem Cert.ReferenceIdeal Cert.ReferenceIdeal.Gen
open Idealize.ShloMosaic.TcCoe
open Idealize.ShloMosaic.Pipeline (Dat Cfg Window)

variable (m : (ℓ : Loc nD τ sig) → Buf (Elt Ideal) ℓ)

/-- The region's one point. -/
def onePoint : Fin cfg0.N := ⟨0, by decide⟩

/-- The region's result array, read through its one block, is what the one point's write-back wrote. -/
theorem region_out (c : Dev nD) :
    ((cfg0.win (1 : Fin 2)).blk onePoint).view.read (Elt Ideal) ((dats (F := Ideal) m 0 c).arrAt (1 : Fin 2) cfg0.N)
      = (dats (F := Ideal) m 0 c).flushed (1 : Fin 2) onePoint := by
  rw [show cfg0.N = (onePoint : Fin cfg0.N).val + 1 from rfl, (dats (F := Ideal) m 0 c).arrAt_succ (1 : Fin 2) onePoint]
  rw [show (cfg0.win (1 : Fin 2)).flush onePoint = true from by decide, if_pos rfl]
  exact View.read_write_univ _ _

/-- The body reads its whole operand and stores its payload over its whole result. -/
theorem region_body (x0 : Vec Ideal S16384x2304 .fp8e4m3) : out0_1 (F := Ideal) x0 = k0_pay1 x0 := by
  have hz : (![0, 0] : Fin S16384x2304.rank → Nat) = fun _ => 0 := funext fun a => by fin_cases a <;> rfl
  unfold out0_1
  rw [View.canon_unit_zero hz, View.ld_unit_zero hz]

/-- The region's result array is the payload of the head weights. -/
theorem region_value (c : Dev nD) :
    Cert.ReferenceIdeal.Value.reg_main_v0 (F := Ideal) m c = k0_pay1 (F := Ideal) (m ((c : Thread nD τ).loc main_arg1)) := by
  have ho := region_out m c
  have hz1 : (fun a => (win0_1.index onePoint) a * main_v0.ty.shape.size a) = fun _ => 0 :=
    funext fun a => by fin_cases a <;> decide
  have hr1 := fun f => Memref.read_access_unit_zero (Elt Ideal) main_v0 hz1 (fun a => by fin_cases a <;> decide) f
  have hz0 : (fun a => (win0_0.index onePoint) a * main_arg1.ty.shape.size a) = fun _ => 0 :=
    funext fun a => by fin_cases a <;> decide
  have hr0 := fun f => Memref.read_access_unit_zero (Elt Ideal) main_arg1 hz0 (fun a => by fin_cases a <;> decide) f
  rw [hr1] at ho
  refine Eq.trans ho ?_
  show (cfg0.win (1 : Fin 2)).cut _ ((dats (F := Ideal) m 0 c).after 1 onePoint) = _
  rw [after0_1, region_body]
  unfold iblk
  rw [hr0]
  rfl

/-- Over the reals the region's result holds the head weights. -/
theorem region_entry (c : Dev nD) (v : Fin 16384) (k : Fin 2304) :
    Cert.ReferenceIdeal.Value.reg_main_v0 (F := Ideal) m c (ix2 v k) = m ((c : Thread nD τ).loc main_arg1) (ix2 v k) := by
  rw [region_value]
  rfl

end Cert.TwoTier

end
-- ==== Proof.RefResults.lean ====
/- The reference's four results, read over its argument arrays. -/
module

public import proofs.«01_k».proof.Proof.RefRegion
public import proofs.«01_k».proof.Proof.Arguments

@[expose] public section

noncomputable section

namespace Cert.TwoTier

open Idealize.ShloMosaic Idealize.SL.Sem Cert.ReferenceIdeal Cert.ReferenceIdeal.Gen Cert.ReferenceIdeal.Read
open Idealize.ShloMosaic.TcCoe

variable (m : (ℓ : Loc nD τ sig) → Buf (Elt Ideal) ℓ)

/-- The contents the reference's later operations run from. -/
abbrev exitC (c : Dev nD) := Cert.ReferenceIdeal.Value.exitV (F := Ideal) m c

/-- The reference's argument arrays. -/
abbrev rArgs (c : Dev nD) : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The four results at lane `s`: both tiers' logarithm of the sum of exponentials, the target's log-probability, and the
    logarithm of each tier alone. -/
theorem reference_results (c : Dev nD) (s : Fin 128) (hv : ((rArgs m c).tgt s).toInt < 131072) :
    val_main_v80 (F := Ideal) (exitC m c (Proc.devRef .tc main_arg0)) (exitC m c (Proc.devRef .tc main_arg2))
        (exitC m c (Proc.devRef .tc main_arg3)) (exitC m c (Proc.devRef .tc main_arg4)) (exitC m c (Proc.devRef .tc main_v0)) (ix2 0 s)
      = (((rArgs m c).lse s : ℝ) : EReal)
    ∧ val_main_v97 (F := Ideal) (exitC m c (Proc.devRef .tc main_arg0)) (exitC m c (Proc.devRef .tc main_arg2))
        (exitC m c (Proc.devRef .tc main_arg3)) (exitC m c (Proc.devRef .tc main_arg4)) (exitC m c (Proc.devRef .tc main_arg5))
        (exitC m c (Proc.devRef .tc main_v0)) (ix2 0 s)
      = (((rArgs m c).logprob s : ℝ) : EReal)
    ∧ val_main_v58 (F := Ideal) (exitC m c (Proc.devRef .tc main_arg0)) (exitC m c (Proc.devRef .tc main_arg2))
        (exitC m c (Proc.devRef .tc main_v0)) (ix2 0 s)
      = (((rArgs m c).lseHead s : ℝ) : EReal)
    ∧ val_main_v70 (F := Ideal) (exitC m c (Proc.devRef .tc main_arg0)) (exitC m c (Proc.devRef .tc main_arg3))
        (exitC m c (Proc.devRef .tc main_arg4)) (ix2 0 s)
      = (((rArgs m c).lseTail s : ℝ) : EReal) := by
  have h0 : ∀ s k, exitC m c (Proc.devRef .tc main_arg0) (ix3 0 s k) = (rArgs m c).x s k := fun s k =>
    congrFun (Cert.ReferenceIdeal.Value.exit_main_arg0 m c) (ix3 0 s k)
  have h2 : ∀ v, exitC m c (Proc.devRef .tc main_arg2) (ix1 v) = (rArgs m c).sh v := fun v =>
    congrFun (Cert.ReferenceIdeal.Value.exit_main_arg2 m c) (ix1 v)
  have h3 : ∀ v j, exitC m c (Proc.devRef .tc main_arg3) (ix2 v j) = (rArgs m c).codes v j := fun v j =>
    congrFun (Cert.ReferenceIdeal.Value.exit_main_arg3 m c) (ix2 v j)
  have h4 : ∀ v g, exitC m c (Proc.devRef .tc main_arg4) (ix2 v g) = (rArgs m c).st v g := fun v g =>
    congrFun (Cert.ReferenceIdeal.Value.exit_main_arg4 m c) (ix2 v g)
  have h5 : ∀ s, exitC m c (Proc.devRef .tc main_arg5) (ix2 0 s) = (rArgs m c).tgt s := fun s =>
    congrFun (Cert.ReferenceIdeal.Value.exit_main_arg5 m c) (ix2 0 s)
  have hr : ∀ v k, exitC m c (Proc.devRef .tc main_v0) (ix2 v k) = (rArgs m c).wh v k := fun v k =>
    (congrFun (Cert.ReferenceIdeal.Value.exit_main_v0 m c) (ix2 v k)).trans (region_entry m c v k)
  exact ⟨ref_lse (rArgs m c) _ _ _ _ _ h0 h2 h3 h4 hr s, ref_logprob (rArgs m c) _ _ _ _ _ _ h0 h2 h3 h4 h5 hr s hv,
    ref_lseHead (rArgs m c) _ _ _ h0 h2 hr s, ref_lseTail (rArgs m c) _ _ _ h0 h3 h4 s⟩

end Cert.TwoTier

end
-- ==== Proof.Agree.lean ====
/- The two programs' results over the same argument arrays, entry by entry. -/
module

public import proofs.«01_k».proof.Defs
public import proofs.«01_k».proof.Proof.Fold
public import proofs.«01_k».proof.Proof.RefResults
public import proofs.«01_k».proof.Proof.Gen.Pre_in_vocabulary

@[expose] public section

noncomputable section

namespace Cert.TwoTier

open Idealize.ShloMosaic Idealize.SL.Sem Idealize.ShloMosaic.TcCoe
open Cert.ReferenceIdeal.Read

/-- Two arrays of one row are equal when they hold the same entry in every lane. -/
theorem row_ext {α : Type} (f g : Shape.Idx ⟨2, ![1, 128]⟩ → α) (h : ∀ s : Fin 128, f (ix2 0 s) = g (ix2 0 s)) : f = g := by
  funext i
  have hi : i = ix2 0 (i 1) := funext fun a => by
    match a with
    | ⟨0, _⟩ => exact Fin.ext (Nat.lt_one_iff.1 (i 0).isLt)
    | ⟨1, _⟩ => rfl
  rw [hi]
  exact h (i 1)

/-- Under the precondition every target is below the size of the vocabulary. -/
theorem target_lt (m : (ℓ : Loc Cert.KernelIdeal.nD Cert.KernelIdeal.τ Cert.KernelIdeal.sig) → Buf (Elt Ideal) ℓ)
    (h : Cert.Pre_KernelIdeal_in_vocabulary (hPre_in_vocabulary := Cert.Pre_in_vocabulary.Gen.facts) m)
    (c : Dev Cert.KernelIdeal.nD) (s : Fin 128) : ((kArgs m c).tgt s).toInt < 131072 :=
  lt_of_slt _ 131072#32 (congrFun (h c) (ix2 0 s))

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The reference's four results are the kernel's, when both start from the same argument arrays. -/
theorem results_agree (c : Dev Cert.KernelIdeal.nD) (hA : rArgs m' c = kArgs m c)
    (hv : ∀ s, ((kArgs m c).tgt s).toInt < 131072) :
    val_main_v80 (F := Ideal) (exitC m' c (Proc.devRef .tc Cert.ReferenceIdeal.main_arg0)) (exitC m' c (Proc.devRef .tc Cert.ReferenceIdeal.main_arg2))
        (exitC m' c (Proc.devRef .tc Cert.ReferenceIdeal.main_arg3)) (exitC m' c (Proc.devRef .tc Cert.ReferenceIdeal.main_arg4))
        (exitC m' c (Proc.devRef .tc Cert.ReferenceIdeal.main_v0))
      = Cert.KernelIdeal.Value.G6 m c
    ∧ val_main_v97 (F := Ideal) (exitC m' c (Proc.devRef .tc Cert.ReferenceIdeal.main_arg0)) (exitC m' c (Proc.devRef .tc Cert.ReferenceIdeal.main_arg2))
        (exitC m' c (Proc.devRef .tc Cert.ReferenceIdeal.main_arg3)) (exitC m' c (Proc.devRef .tc Cert.ReferenceIdeal.main_arg4))
        (exitC m' c (Proc.devRef .tc Cert.ReferenceIdeal.main_arg5)) (exitC m' c (Proc.devRef .tc Cert.ReferenceIdeal.main_v0))
      = Cert.KernelIdeal.Value.G7 m c
    ∧ val_main_v58 (F := Ideal) (exitC m' c (Proc.devRef .tc Cert.ReferenceIdeal.main_arg0)) (exitC m' c (Proc.devRef .tc Cert.ReferenceIdeal.main_arg2))
        (exitC m' c (Proc.devRef .tc Cert.ReferenceIdeal.main_v0))
      = Cert.KernelIdeal.Value.G8 m c
    ∧ val_main_v70 (F := Ideal) (exitC m' c (Proc.devRef .tc Cert.ReferenceIdeal.main_arg0)) (exitC m' c (Proc.devRef .tc Cert.ReferenceIdeal.main_arg3))
        (exitC m' c (Proc.devRef .tc Cert.ReferenceIdeal.main_arg4))
      = Cert.KernelIdeal.Value.G9 m c := by
  have hk := fun s => kernel_results m c s (hv s)
  have hr := fun s => reference_results m' c s (by rw [hA]; exact hv s)
  rw [hA] at hr
  exact ⟨row_ext _ _ fun s => (hr s).1.trans (hk s).1.symm, row_ext _ _ fun s => (hr s).2.1.trans (hk s).2.1.symm,
    row_ext _ _ fun s => (hr s).2.2.1.trans (hk s).2.2.1.symm, row_ext _ _ fun s => (hr s).2.2.2.trans (hk s).2.2.2.symm⟩

end Cert.TwoTier

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_in_vocabulary
public import proofs.«01_k».proof.Proof.Agree
public import Idealize.ShloMosaic.Adequacy
public import Idealize.ShloMosaic.Init

@[expose] public section

noncomputable section

namespace Cert.Proof

open Idealize.ShloMosaic Idealize.SL.Sem

/-- Over the reals, from argument arrays whose targets lie in the vocabulary, both programs end with the same four results
    and keep their arguments. -/
theorem algebraic : Cert.algebraic_KernelIdeal_ReferenceIdeal_pre_in_vocabulary (hKernelIdeal := Cert.KernelIdeal.Gen.facts)
    (hReferenceIdeal := Cert.ReferenceIdeal.Gen.facts) (hPre_in_vocabulary := Cert.Pre_in_vocabulary.Gen.facts) := by
  intro m g m' g' hpre hargs
  refine ⟨_, _, _, _, Cert.KernelIdeal.Value.run (F := Ideal) m g, ?_⟩
  refine (θ_run Cert.ReferenceIdeal.defs _ _).mono (fun _ h c => ?_) (Cert.ReferenceIdeal.Value.run (F := Ideal) m' g')
  have hA : Cert.TwoTier.rArgs m' c = Cert.TwoTier.kArgs m c := by
    obtain ⟨e0, e1, e2, e3, e4, e5⟩ := hargs c
    unfold Cert.TwoTier.rArgs Cert.TwoTier.kArgs
    rw [e0, e1, e2, e3, e4, e5]
  obtain ⟨a0, a1, a2, a3⟩ := Cert.TwoTier.results_agree m m' c hA (Cert.TwoTier.target_lt m hpre c)
  obtain ⟨r0, r1, r2, r3, kept⟩ := h c
  exact ⟨(r0.trans (Cert.ReferenceIdeal.Read.val_main_v80_eq _)).trans a0, (r1.trans (Cert.ReferenceIdeal.Read.val_main_v97_eq _)).trans a1,
    (r2.trans (Cert.ReferenceIdeal.Read.val_main_v58_eq _)).trans a2, (r3.trans (Cert.ReferenceIdeal.Read.val_main_v70_eq _)).trans a3, kept⟩

/-- Everything the certificate claims. -/
theorem claim : Cert.Claim :=
  ⟨Cert.Kernel.Gen.facts, Cert.KernelIdeal.Gen.facts, Cert.ReferenceIdeal.Gen.facts, Cert.Pre_in_vocabulary.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    ⟨IdealRules.named_const.statement Cert.KernelIdeal.κ "inv_softcap" .f32 0x3D088889#32 ((1 / 30 : ℝ) : EReal) rfl,
      IdealRules.named_const.statement Cert.KernelIdeal.κ "softcap_log2e" .f32 0x422D1F97#32 ((30 * (Real.log 2)⁻¹ : ℝ) : EReal) rfl⟩,
    algebraic⟩

end Cert.Proof

end
